-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference [hPre_in_vocab : Cert.Pre_in_vocab.Facts] (m : (ℓ : Loc Cert.Reference.nD Cert.Reference.τ Cert.Reference.sig) → Buf (Elt Bits) ℓ) : Prop :=
  ∀ c : Dev Cert.Reference.nD,
    (Cert.Pre_in_vocab.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] [hPre_in_vocab : Cert.Pre_in_vocab.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_Reference (hReference := hReference) (hPre_in_vocab := hPre_in_vocab)
    ∧ quiescent_ReferenceIdeal (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
    ∧ bitexact_Kernel_Reference (hKernel := hKernel) (hReference := hReference) (hPre_in_vocab := hPre_in_vocab)
-- ==== Pre_in_vocab.lean ====
abbrev S4096x200 : Shape := ⟨2, ![4096, 200]⟩
abbrev S100x128 : Shape := ⟨2, ![100, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S100x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S100x128 : Shape := ⟨2, ![100, 128]⟩
abbrev S819200 : Shape := ⟨1, ![819200]⟩
abbrev S819200x128 : Shape := ⟨2, ![819200, 128]⟩
abbrev S25600 : Shape := ⟨1, ![25600]⟩
abbrev S2x256x128 : Shape := ⟨3, ![2, 256, 128]⟩
abbrev S_ : Shape := ⟨0, ![]⟩
abbrev S2 : Shape := ⟨1, ![2]⟩
abbrev S1 : Shape := ⟨1, ![1]⟩
abbrev S1x16 : Shape := ⟨2, ![1, 16]⟩
abbrev S16 : Shape := ⟨1, ![16]⟩
abbrev S1x256x128 : Shape := ⟨3, ![1, 256, 128]⟩
abbrev S256x128 : Shape := ⟨2, ![256, 128]⟩
abbrev S4096x200x128 : Shape := ⟨3, ![4096, 200, 128]⟩

abbrev nBuf : Table → Nat
  | .hbm => 5
  | .local .scVector .vmem => 3
  | _ => 0

abbrev bufTy : (tb : Table) → Fin (nBuf tb) → BufTy
  | .hbm, ⟨0, _⟩ => ⟨S4096x200, .i32⟩
  | .hbm, ⟨1, _⟩ => ⟨S100x128, .f32⟩
  | .hbm, ⟨2, _⟩ => ⟨S819200, .i32⟩
  | .hbm, ⟨3, _⟩ => ⟨S819200x128, .f32⟩
  | .hbm, ⟨4, _⟩ => ⟨S4096x200x128, .f32⟩
  | .local .scVector .vmem, ⟨0, _⟩ => ⟨S25600, .i32⟩
  | .local .scVector .vmem, ⟨1, _⟩ => ⟨S100x128, .f32⟩
  | .local .scVector .vmem, ⟨2, _⟩ => ⟨S2x256x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k0_t1_loop : Scf.Loop 32 :=
  let c0_i32_0 : BitVec 32 := 0#32
  let c128_i32 : BitVec 32 := 128#32
  let v3 : BitVec 32 := Scalar.addi c0_i32_0 c128_i32
  let c1_i32 : BitVec 32 := 1#32
  ⟨c0_i32_0, v3, c1_i32⟩
def k0_off2 (k0_t1 : Fin k0_t1_loop.trips) : Fin 1 → Nat :=
  let c0_i32_42 : BitVec 32 := 0#32
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_41 : BitVec 32 := 2#32
  let v36 : BitVec 32 := Scalar.muli v35 c2_i32_41
  let v37 : BitVec 32 := Scalar.addi c0_i32_42 v36
  let v38 : Index := Scalar.indexCast v37
  ![v38.toNat]
def k0_off3 (v44 : BitVec 32) : Fin 2 → Nat :=
  let v45 : Index := Scalar.indexCast v44
  let c0 : Index := 0#32
  ![v45.toNat, 0]

def k0_off4 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v50 : Index := Scalar.indexCast v42
  let c0_47 : Index := 0#32
  ![v50.toNat, 0]
def k0_off5 (v44 : BitVec 32) : Fin 2 → Nat :=
  let v54 : Index := Scalar.indexCast v44
  let c16 : Index := 16#32
  ![v54.toNat, 16]
def k0_off6 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v59 : Index := Scalar.indexCast v42
  let c16_50 : Index := 16#32
  ![v59.toNat, 16]
def k0_off7 (v44 : BitVec 32) : Fin 2 → Nat :=
  let v63 : Index := Scalar.indexCast v44
  let c32 : Index := 32#32
  ![v63.toNat, 32]
def k0_off8 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v68 : Index := Scalar.indexCast v42
  let c32_53 : Index := 32#32
  ![v68.toNat, 32]
def k0_off9 (v44 : BitVec 32) : Fin 2 → Nat :=
  let v72 : Index := Scalar.indexCast v44
  let c48 : Index := 48#32
  ![v72.toNat, 48]
def k0_off10 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v77 : Index := Scalar.indexCast v42
  let c48_56 : Index := 48#32
  ![v77.toNat, 48]
def k0_off11 (v44 : BitVec 32) : Fin 2 → Nat :=
  let v81 : Index := Scalar.indexCast v44
  let c64 : Index := 64#32
  ![v81.toNat, 64]
def k0_off12 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v86 : Index := Scalar.indexCast v42
  let c64_59 : Index := 64#32
  ![v86.toNat, 64]
def k0_off13 (v44 : BitVec 32) : Fin 2 → Nat :=
  let v90 : Index := Scalar.indexCast v44
  let c80 : Index := 80#32
  ![v90.toNat, 80]
def k0_off14 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v95 : Index := Scalar.indexCast v42
  let c80_62 : Index := 80#32
  ![v95.toNat, 80]
def k0_off15 (v44 : BitVec 32) : Fin 2 → Nat :=
  let v99 : Index := Scalar.indexCast v44
  let c96 : Index := 96#32
  ![v99.toNat, 96]
def k0_off16 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v104 : Index := Scalar.indexCast v42
  let c96_65 : Index := 96#32
  ![v104.toNat, 96]
def k0_off17 (v44 : BitVec 32) : Fin 2 → Nat :=
  let v108 : Index := Scalar.indexCast v44
  let c112 : Index := 112#32
  ![v108.toNat, 112]

def k0_chk1 (v44 : BitVec 32) : Prop :=
  (∀ a, (k0_off3 v44) a + S1x16.size a ≤ S100x128.size a) ∧
  (∀ a, (k0_off5 v44) a + S1x16.size a ≤ S100x128.size a) ∧
  (∀ a, (k0_off7 v44) a + S1x16.size a ≤ S100x128.size a) ∧
  (∀ a, (k0_off9 v44) a + S1x16.size a ≤ S100x128.size a) ∧
  (∀ a, (k0_off11 v44) a + S1x16.size a ≤ S100x128.size a) ∧
  (∀ a, (k0_off13 v44) a + S1x16.size a ≤ S100x128.size a) ∧
  (∀ a, (k0_off15 v44) a + S1x16.size a ≤ S100x128.size a) ∧
  (∀ a, (k0_off17 v44) a + S1x16.size a ≤ S100x128.size a)
theorem k0_off3_inb : ∀ (v44 : BitVec 32) (k0_hw1 : k0_chk1 v44), ∀ a, (k0_off3 v44) a + S1x16.size a ≤ S100x128.size a := fun v44 k0_hw1 => k0_hw1.1
theorem k0_off5_inb : ∀ (v44 : BitVec 32) (k0_hw1 : k0_chk1 v44), ∀ a, (k0_off5 v44) a + S1x16.size a ≤ S100x128.size a := fun v44 k0_hw1 => k0_hw1.2.1
theorem k0_off7_inb : ∀ (v44 : BitVec 32) (k0_hw1 : k0_chk1 v44), ∀ a, (k0_off7 v44) a + S1x16.size a ≤ S100x128.size a := fun v44 k0_hw1 => k0_hw1.2.2.1
theorem k0_off9_inb : ∀ (v44 : BitVec 32) (k0_hw1 : k0_chk1 v44), ∀ a, (k0_off9 v44) a + S1x16.size a ≤ S100x128.size a := fun v44 k0_hw1 => k0_hw1.2.2.2.1
theorem k0_off11_inb : ∀ (v44 : BitVec 32) (k0_hw1 : k0_chk1 v44), ∀ a, (k0_off11 v44) a + S1x16.size a ≤ S100x128.size a := fun v44 k0_hw1 => k0_hw1.2.2.2.2.1
theorem k0_off13_inb : ∀ (v44 : BitVec 32) (k0_hw1 : k0_chk1 v44), ∀ a, (k0_off13 v44) a + S1x16.size a ≤ S100x128.size a := fun v44 k0_hw1 => k0_hw1.2.2.2.2.2.1
theorem k0_off15_inb : ∀ (v44 : BitVec 32) (k0_hw1 : k0_chk1 v44), ∀ a, (k0_off15 v44) a + S1x16.size a ≤ S100x128.size a := fun v44 k0_hw1 => k0_hw1.2.2.2.2.2.2.1
theorem k0_off17_inb : ∀ (v44 : BitVec 32) (k0_hw1 : k0_chk1 v44), ∀ a, (k0_off17 v44) a + S1x16.size a ≤ S100x128.size a := fun v44 k0_hw1 => k0_hw1.2.2.2.2.2.2.2

def k0_off18 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v113 : Index := Scalar.indexCast v42
  let c112_68 : Index := 112#32
  ![v113.toNat, 112]
def k0_off19 (v120 : BitVec 32) : Fin 2 → Nat :=
  let v121 : Index := Scalar.indexCast v120
  let c0_71 : Index := 0#32
  ![v121.toNat, 0]

def k0_off20 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v126 : Index := Scalar.indexCast v118
  let c0_74 : Index := 0#32
  ![v126.toNat, 0]
def k0_off21 (v120 : BitVec 32) : Fin 2 → Nat :=
  let v130 : Index := Scalar.indexCast v120
  let c16_75 : Index := 16#32
  ![v130.toNat, 16]
def k0_off22 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v135 : Index := Scalar.indexCast v118
  let c16_78 : Index := 16#32
  ![v135.toNat, 16]
def k0_off23 (v120 : BitVec 32) : Fin 2 → Nat :=
  let v139 : Index := Scalar.indexCast v120
  let c32_79 : Index := 32#32
  ![v139.toNat, 32]
def k0_off24 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v144 : Index := Scalar.indexCast v118
  let c32_82 : Index := 32#32
  ![v144.toNat, 32]
def k0_off25 (v120 : BitVec 32) : Fin 2 → Nat :=
  let v148 : Index := Scalar.indexCast v120
  let c48_83 : Index := 48#32
  ![v148.toNat, 48]
def k0_off26 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v153 : Index := Scalar.indexCast v118
  let c48_86 : Index := 48#32
  ![v153.toNat, 48]
def k0_off27 (v120 : BitVec 32) : Fin 2 → Nat :=
  let v157 : Index := Scalar.indexCast v120
  let c64_87 : Index := 64#32
  ![v157.toNat, 64]
def k0_off28 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v162 : Index := Scalar.indexCast v118
  let c64_90 : Index := 64#32
  ![v162.toNat, 64]
def k0_off29 (v120 : BitVec 32) : Fin 2 → Nat :=
  let v166 : Index := Scalar.indexCast v120
  let c80_91 : Index := 80#32
  ![v166.toNat, 80]
def k0_off30 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v171 : Index := Scalar.indexCast v118
  let c80_94 : Index := 80#32
  ![v171.toNat, 80]
def k0_off31 (v120 : BitVec 32) : Fin 2 → Nat :=
  let v175 : Index := Scalar.indexCast v120
  let c96_95 : Index := 96#32
  ![v175.toNat, 96]
def k0_off32 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v180 : Index := Scalar.indexCast v118
  let c96_98 : Index := 96#32
  ![v180.toNat, 96]
def k0_off33 (v120 : BitVec 32) : Fin 2 → Nat :=
  let v184 : Index := Scalar.indexCast v120
  let c112_99 : Index := 112#32
  ![v184.toNat, 112]

def k0_chk2 (v120 : BitVec 32) : Prop :=
  (∀ a, (k0_off19 v120) a + S1x16.size a ≤ S100x128.size a) ∧
  (∀ a, (k0_off21 v120) a + S1x16.size a ≤ S100x128.size a) ∧
  (∀ a, (k0_off23 v120) a + S1x16.size a ≤ S100x128.size a) ∧
  (∀ a, (k0_off25 v120) a + S1x16.size a ≤ S100x128.size a) ∧
  (∀ a, (k0_off27 v120) a + S1x16.size a ≤ S100x128.size a) ∧
  (∀ a, (k0_off29 v120) a + S1x16.size a ≤ S100x128.size a) ∧
  (∀ a, (k0_off31 v120) a + S1x16.size a ≤ S100x128.size a) ∧
  (∀ a, (k0_off33 v120) a + S1x16.size a ≤ S100x128.size a)
theorem k0_off19_inb : ∀ (v120 : BitVec 32) (k0_hw2 : k0_chk2 v120), ∀ a, (k0_off19 v120) a + S1x16.size a ≤ S100x128.size a := fun v120 k0_hw2 => k0_hw2.1
theorem k0_off21_inb : ∀ (v120 : BitVec 32) (k0_hw2 : k0_chk2 v120), ∀ a, (k0_off21 v120) a + S1x16.size a ≤ S100x128.size a := fun v120 k0_hw2 => k0_hw2.2.1
theorem k0_off23_inb : ∀ (v120 : BitVec 32) (k0_hw2 : k0_chk2 v120), ∀ a, (k0_off23 v120) a + S1x16.size a ≤ S100x128.size a := fun v120 k0_hw2 => k0_hw2.2.2.1
theorem k0_off25_inb : ∀ (v120 : BitVec 32) (k0_hw2 : k0_chk2 v120), ∀ a, (k0_off25 v120) a + S1x16.size a ≤ S100x128.size a := fun v120 k0_hw2 => k0_hw2.2.2.2.1
theorem k0_off27_inb : ∀ (v120 : BitVec 32) (k0_hw2 : k0_chk2 v120), ∀ a, (k0_off27 v120) a + S1x16.size a ≤ S100x128.size a := fun v120 k0_hw2 => k0_hw2.2.2.2.2.1
theorem k0_off29_inb : ∀ (v120 : BitVec 32) (k0_hw2 : k0_chk2 v120), ∀ a, (k0_off29 v120) a + S1x16.size a ≤ S100x128.size a := fun v120 k0_hw2 => k0_hw2.2.2.2.2.2.1
theorem k0_off31_inb : ∀ (v120 : BitVec 32) (k0_hw2 : k0_chk2 v120), ∀ a, (k0_off31 v120) a + S1x16.size a ≤ S100x128.size a := fun v120 k0_hw2 => k0_hw2.2.2.2.2.2.2.1
theorem k0_off33_inb : ∀ (v120 : BitVec 32) (k0_hw2 : k0_chk2 v120), ∀ a, (k0_off33 v120) a + S1x16.size a ≤ S100x128.size a := fun v120 k0_hw2 => k0_hw2.2.2.2.2.2.2.2

def k0_off34 (k0_t1 : Fin k0_t1_loop.trips) : Fin 2 → Nat :=
  let c0_i32_40 : BitVec 32 := 0#32
  let c0_i32_0 : BitVec 32 := 0#32
  let c1_i32 : BitVec 32 := 1#32
  let arg10 : BitVec 32 := Scf.iv c0_i32_0 c1_i32 k0_t1
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v189 : Index := Scalar.indexCast v118
  let c112_102 : Index := 112#32
  ![v189.toNat, 112]
def k0_off35 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v4 : BitVec 32 := Scalar.addi v2 c0_i32_2
  let c0_i32_6 : BitVec 32 := 0#32
  ![v4.toNat, 0]
def k0_off35_at (r : Fin 4) : BitVec 32 :=
  if r.val < 2 then
    if r.val < 1 then
      0#32
    else
      256#32
  else
    if r.val < 3 then
      25088#32
    else
      25344#32
@[reducible] def k0_t2_loop : Scf.Loop 32 :=
  let c0_i32_11 : BitVec 32 := 0#32
  let c128_i32_12 : BitVec 32 := 128#32
  let v11 : BitVec 32 := Scalar.addi c0_i32_11 c128_i32_12
  let c1_i32_13 : BitVec 32 := 1#32
  ⟨c0_i32_11, v11, c1_i32_13⟩
def k0_off36 (k0_t2 : Fin k0_t2_loop.trips) : Fin 1 → Nat :=
  let c256_i32_42 : BitVec 32 := 256#32
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_41 : BitVec 32 := 2#32
  let v36 : BitVec 32 := Scalar.muli v35 c2_i32_41
  let v37 : BitVec 32 := Scalar.addi c256_i32_42 v36
  let v38 : Index := Scalar.indexCast v37
  ![v38.toNat]
def k0_off37 (v44 : BitVec 32) : Fin 2 → Nat :=
  let v45 : Index := Scalar.indexCast v44
  let c0 : Index := 0#32
  ![v45.toNat, 0]

def k0_off38 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v50 : Index := Scalar.indexCast v42
  let c0_47 : Index := 0#32
  ![v50.toNat, 0]
def k0_off39 (v44 : BitVec 32) : Fin 2 → Nat :=
  let v54 : Index := Scalar.indexCast v44
  let c16 : Index := 16#32
  ![v54.toNat, 16]
def k0_off40 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v59 : Index := Scalar.indexCast v42
  let c16_50 : Index := 16#32
  ![v59.toNat, 16]
def k0_off41 (v44 : BitVec 32) : Fin 2 → Nat :=
  let v63 : Index := Scalar.indexCast v44
  let c32 : Index := 32#32
  ![v63.toNat, 32]
def k0_off42 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v68 : Index := Scalar.indexCast v42
  let c32_53 : Index := 32#32
  ![v68.toNat, 32]
def k0_off43 (v44 : BitVec 32) : Fin 2 → Nat :=
  let v72 : Index := Scalar.indexCast v44
  let c48 : Index := 48#32
  ![v72.toNat, 48]
def k0_off44 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v77 : Index := Scalar.indexCast v42
  let c48_56 : Index := 48#32
  ![v77.toNat, 48]
def k0_off45 (v44 : BitVec 32) : Fin 2 → Nat :=
  let v81 : Index := Scalar.indexCast v44
  let c64 : Index := 64#32
  ![v81.toNat, 64]
def k0_off46 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v86 : Index := Scalar.indexCast v42
  let c64_59 : Index := 64#32
  ![v86.toNat, 64]
def k0_off47 (v44 : BitVec 32) : Fin 2 → Nat :=
  let v90 : Index := Scalar.indexCast v44
  let c80 : Index := 80#32
  ![v90.toNat, 80]
def k0_off48 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v95 : Index := Scalar.indexCast v42
  let c80_62 : Index := 80#32
  ![v95.toNat, 80]
def k0_off49 (v44 : BitVec 32) : Fin 2 → Nat :=
  let v99 : Index := Scalar.indexCast v44
  let c96 : Index := 96#32
  ![v99.toNat, 96]
def k0_off50 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v104 : Index := Scalar.indexCast v42
  let c96_65 : Index := 96#32
  ![v104.toNat, 96]
def k0_off51 (v44 : BitVec 32) : Fin 2 → Nat :=
  let v108 : Index := Scalar.indexCast v44
  let c112 : Index := 112#32
  ![v108.toNat, 112]

def k0_chk3 (v44 : BitVec 32) : Prop :=
  (∀ a, (k0_off37 v44) a + S1x16.size a ≤ S100x128.size a) ∧
  (∀ a, (k0_off39 v44) a + S1x16.size a ≤ S100x128.size a) ∧
  (∀ a, (k0_off41 v44) a + S1x16.size a ≤ S100x128.size a) ∧
  (∀ a, (k0_off43 v44) a + S1x16.size a ≤ S100x128.size a) ∧
  (∀ a, (k0_off45 v44) a + S1x16.size a ≤ S100x128.size a) ∧
  (∀ a, (k0_off47 v44) a + S1x16.size a ≤ S100x128.size a) ∧
  (∀ a, (k0_off49 v44) a + S1x16.size a ≤ S100x128.size a) ∧
  (∀ a, (k0_off51 v44) a + S1x16.size a ≤ S100x128.size a)
theorem k0_off37_inb : ∀ (v44 : BitVec 32) (k0_hw3 : k0_chk3 v44), ∀ a, (k0_off37 v44) a + S1x16.size a ≤ S100x128.size a := fun v44 k0_hw3 => k0_hw3.1
theorem k0_off39_inb : ∀ (v44 : BitVec 32) (k0_hw3 : k0_chk3 v44), ∀ a, (k0_off39 v44) a + S1x16.size a ≤ S100x128.size a := fun v44 k0_hw3 => k0_hw3.2.1
theorem k0_off41_inb : ∀ (v44 : BitVec 32) (k0_hw3 : k0_chk3 v44), ∀ a, (k0_off41 v44) a + S1x16.size a ≤ S100x128.size a := fun v44 k0_hw3 => k0_hw3.2.2.1
theorem k0_off43_inb : ∀ (v44 : BitVec 32) (k0_hw3 : k0_chk3 v44), ∀ a, (k0_off43 v44) a + S1x16.size a ≤ S100x128.size a := fun v44 k0_hw3 => k0_hw3.2.2.2.1
theorem k0_off45_inb : ∀ (v44 : BitVec 32) (k0_hw3 : k0_chk3 v44), ∀ a, (k0_off45 v44) a + S1x16.size a ≤ S100x128.size a := fun v44 k0_hw3 => k0_hw3.2.2.2.2.1
theorem k0_off47_inb : ∀ (v44 : BitVec 32) (k0_hw3 : k0_chk3 v44), ∀ a, (k0_off47 v44) a + S1x16.size a ≤ S100x128.size a := fun v44 k0_hw3 => k0_hw3.2.2.2.2.2.1
theorem k0_off49_inb : ∀ (v44 : BitVec 32) (k0_hw3 : k0_chk3 v44), ∀ a, (k0_off49 v44) a + S1x16.size a ≤ S100x128.size a := fun v44 k0_hw3 => k0_hw3.2.2.2.2.2.2.1
theorem k0_off51_inb : ∀ (v44 : BitVec 32) (k0_hw3 : k0_chk3 v44), ∀ a, (k0_off51 v44) a + S1x16.size a ≤ S100x128.size a := fun v44 k0_hw3 => k0_hw3.2.2.2.2.2.2.2

def k0_off52 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_43 : BitVec 32 := 2#32
  let v41 : BitVec 32 := Scalar.muli v35 c2_i32_43
  let c0_i32_44 : BitVec 32 := 0#32
  let v42 : BitVec 32 := Scalar.addi v41 c0_i32_44
  let v113 : Index := Scalar.indexCast v42
  let c112_68 : Index := 112#32
  ![v113.toNat, 112]
def k0_off53 (v120 : BitVec 32) : Fin 2 → Nat :=
  let v121 : Index := Scalar.indexCast v120
  let c0_71 : Index := 0#32
  ![v121.toNat, 0]

def k0_off54 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v126 : Index := Scalar.indexCast v118
  let c0_74 : Index := 0#32
  ![v126.toNat, 0]
def k0_off55 (v120 : BitVec 32) : Fin 2 → Nat :=
  let v130 : Index := Scalar.indexCast v120
  let c16_75 : Index := 16#32
  ![v130.toNat, 16]
def k0_off56 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v135 : Index := Scalar.indexCast v118
  let c16_78 : Index := 16#32
  ![v135.toNat, 16]
def k0_off57 (v120 : BitVec 32) : Fin 2 → Nat :=
  let v139 : Index := Scalar.indexCast v120
  let c32_79 : Index := 32#32
  ![v139.toNat, 32]
def k0_off58 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v144 : Index := Scalar.indexCast v118
  let c32_82 : Index := 32#32
  ![v144.toNat, 32]
def k0_off59 (v120 : BitVec 32) : Fin 2 → Nat :=
  let v148 : Index := Scalar.indexCast v120
  let c48_83 : Index := 48#32
  ![v148.toNat, 48]
def k0_off60 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v153 : Index := Scalar.indexCast v118
  let c48_86 : Index := 48#32
  ![v153.toNat, 48]
def k0_off61 (v120 : BitVec 32) : Fin 2 → Nat :=
  let v157 : Index := Scalar.indexCast v120
  let c64_87 : Index := 64#32
  ![v157.toNat, 64]
def k0_off62 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v162 : Index := Scalar.indexCast v118
  let c64_90 : Index := 64#32
  ![v162.toNat, 64]
def k0_off63 (v120 : BitVec 32) : Fin 2 → Nat :=
  let v166 : Index := Scalar.indexCast v120
  let c80_91 : Index := 80#32
  ![v166.toNat, 80]
def k0_off64 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v171 : Index := Scalar.indexCast v118
  let c80_94 : Index := 80#32
  ![v171.toNat, 80]
def k0_off65 (v120 : BitVec 32) : Fin 2 → Nat :=
  let v175 : Index := Scalar.indexCast v120
  let c96_95 : Index := 96#32
  ![v175.toNat, 96]
def k0_off66 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v180 : Index := Scalar.indexCast v118
  let c96_98 : Index := 96#32
  ![v180.toNat, 96]
def k0_off67 (v120 : BitVec 32) : Fin 2 → Nat :=
  let v184 : Index := Scalar.indexCast v120
  let c112_99 : Index := 112#32
  ![v184.toNat, 112]

def k0_chk4 (v120 : BitVec 32) : Prop :=
  (∀ a, (k0_off53 v120) a + S1x16.size a ≤ S100x128.size a) ∧
  (∀ a, (k0_off55 v120) a + S1x16.size a ≤ S100x128.size a) ∧
  (∀ a, (k0_off57 v120) a + S1x16.size a ≤ S100x128.size a) ∧
  (∀ a, (k0_off59 v120) a + S1x16.size a ≤ S100x128.size a) ∧
  (∀ a, (k0_off61 v120) a + S1x16.size a ≤ S100x128.size a) ∧
  (∀ a, (k0_off63 v120) a + S1x16.size a ≤ S100x128.size a) ∧
  (∀ a, (k0_off65 v120) a + S1x16.size a ≤ S100x128.size a) ∧
  (∀ a, (k0_off67 v120) a + S1x16.size a ≤ S100x128.size a)
theorem k0_off53_inb : ∀ (v120 : BitVec 32) (k0_hw4 : k0_chk4 v120), ∀ a, (k0_off53 v120) a + S1x16.size a ≤ S100x128.size a := fun v120 k0_hw4 => k0_hw4.1
theorem k0_off55_inb : ∀ (v120 : BitVec 32) (k0_hw4 : k0_chk4 v120), ∀ a, (k0_off55 v120) a + S1x16.size a ≤ S100x128.size a := fun v120 k0_hw4 => k0_hw4.2.1
theorem k0_off57_inb : ∀ (v120 : BitVec 32) (k0_hw4 : k0_chk4 v120), ∀ a, (k0_off57 v120) a + S1x16.size a ≤ S100x128.size a := fun v120 k0_hw4 => k0_hw4.2.2.1
theorem k0_off59_inb : ∀ (v120 : BitVec 32) (k0_hw4 : k0_chk4 v120), ∀ a, (k0_off59 v120) a + S1x16.size a ≤ S100x128.size a := fun v120 k0_hw4 => k0_hw4.2.2.2.1
theorem k0_off61_inb : ∀ (v120 : BitVec 32) (k0_hw4 : k0_chk4 v120), ∀ a, (k0_off61 v120) a + S1x16.size a ≤ S100x128.size a := fun v120 k0_hw4 => k0_hw4.2.2.2.2.1
theorem k0_off63_inb : ∀ (v120 : BitVec 32) (k0_hw4 : k0_chk4 v120), ∀ a, (k0_off63 v120) a + S1x16.size a ≤ S100x128.size a := fun v120 k0_hw4 => k0_hw4.2.2.2.2.2.1
theorem k0_off65_inb : ∀ (v120 : BitVec 32) (k0_hw4 : k0_chk4 v120), ∀ a, (k0_off65 v120) a + S1x16.size a ≤ S100x128.size a := fun v120 k0_hw4 => k0_hw4.2.2.2.2.2.2.1
theorem k0_off67_inb : ∀ (v120 : BitVec 32) (k0_hw4 : k0_chk4 v120), ∀ a, (k0_off67 v120) a + S1x16.size a ≤ S100x128.size a := fun v120 k0_hw4 => k0_hw4.2.2.2.2.2.2.2

def k0_off68 (k0_t2 : Fin k0_t2_loop.trips) : Fin 2 → Nat :=
  let c0_i32_40 : BitVec 32 := 0#32
  let c0_i32_11 : BitVec 32 := 0#32
  let c1_i32_13 : BitVec 32 := 1#32
  let arg10 : BitVec 32 := Scf.iv c0_i32_11 c1_i32_13 k0_t2
  let c1_i32_39 : BitVec 32 := 1#32
  let v34 : BitVec 32 := Scalar.muli arg10 c1_i32_39
  let v35 : BitVec 32 := Scalar.addi c0_i32_40 v34
  let c2_i32_69 : BitVec 32 := 2#32
  let v117 : BitVec 32 := Scalar.muli v35 c2_i32_69
  let c1_i32_70 : BitVec 32 := 1#32
  let v118 : BitVec 32 := Scalar.addi v117 c1_i32_70
  let v189 : Index := Scalar.indexCast v118
  let c112_102 : Index := 112#32
  ![v189.toNat, 112]
@[reducible] def k0_t3_loop : Scf.Loop 32 :=
  let c0_i32_22 : BitVec 32 := 0#32
  let c49_i32 : BitVec 32 := 49#32
  let v19 : BitVec 32 := Scalar.addi c0_i32_22 c49_i32
  let c1_i32_23 : BitVec 32 := 1#32
  ⟨c0_i32_22, v19, c1_i32_23⟩
def k0_off69 (i : grid0.Coords) (k0_t3 : Fin k0_t3_loop.trips) (c0_i32_43 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_41 : BitVec 32 := 2#32
  let c0_i32_40 : BitVec 32 := 0#32
  let c0_i32_22 : BitVec 32 := 0#32
  let c1_i32_23 : BitVec 32 := 1#32
  let arg10 : BitVec 32 := Scf.iv c0_i32_22 c1_i32_23 k0_t3
  let c1_i32_39 : BitVec 32 := 1#32
  let v34 : BitVec 32 := Scalar.muli arg10 c1_i32_39
  let v35 : BitVec 32 := Scalar.addi c0_i32_40 v34
  let v36 : BitVec 32 := Scalar.muli c2_i32_41 v35
  let c2_i32_42 : BitVec 32 := 2#32
  let v37 : BitVec 32 := Scalar.addi v36 c2_i32_42
  let v38 : BitVec 32 := Scalar.addi v37 c0_i32_43
  let c2_i32_44 : BitVec 32 := 2#32
  let v39 : BitVec 32 := Scalar.subi v38 c2_i32_44
  let c256_i32_45 : BitVec 32 := 256#32
  let v40 : BitVec 32 := Scalar.muli v39 c256_i32_45
  let v41 : BitVec 32 := Scalar.addi v2 v40
  let c0_i32_49 : BitVec 32 := 0#32
  ![v41.toNat, 0]
@[reducible] def k0_t4_loop : Scf.Loop 32 :=
  let c0_i32_54 : BitVec 32 := 0#32
  let c128_i32_55 : BitVec 32 := 128#32
  let v48 : BitVec 32 := Scalar.addi c0_i32_54 c128_i32_55
  let c1_i32_56 : BitVec 32 := 1#32
  ⟨c0_i32_54, v48, c1_i32_56⟩
def k0_off70 (k0_t3 : Fin k0_t3_loop.trips) (k0_t4 : Fin k0_t4_loop.trips) : Fin 1 → Nat :=
  let c2_i32_41 : BitVec 32 := 2#32
  let c0_i32_40 : BitVec 32 := 0#32
  let c0_i32_22 : BitVec 32 := 0#32
  let c1_i32_23 : BitVec 32 := 1#32
  let arg10 : BitVec 32 := Scf.iv c0_i32_22 c1_i32_23 k0_t3
  let c1_i32_39 : BitVec 32 := 1#32
  let v34 : BitVec 32 := Scalar.muli arg10 c1_i32_39
  let v35 : BitVec 32 := Scalar.addi c0_i32_40 v34
  let v36 : BitVec 32 := Scalar.muli c2_i32_41 v35
  let c2_i32_42 : BitVec 32 := 2#32
  let v37 : BitVec 32 := Scalar.addi v36 c2_i32_42
  let c0_i32_43 : BitVec 32 := 0#32
  let v38 : BitVec 32 := Scalar.addi v37 c0_i32_43
  let c256_i32_93 : BitVec 32 := 256#32
  let v80 : BitVec 32 := Scalar.muli v38 c256_i32_93
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_94 : BitVec 32 := 2#32
  let v81 : BitVec 32 := Scalar.muli v79 c2_i32_94
  let v82 : BitVec 32 := Scalar.addi v80 v81
  let v83 : Index := Scalar.indexCast v82
  ![v83.toNat]
def k0_off71 (v89 : BitVec 32) : Fin 2 → Nat :=
  let v90 : Index := Scalar.indexCast v89
  let c0 : Index := 0#32
  ![v90.toNat, 0]

def k0_off72 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v95 : Index := Scalar.indexCast v87
  let c0_99 : Index := 0#32
  ![v95.toNat, 0]
def k0_off73 (v89 : BitVec 32) : Fin 2 → Nat :=
  let v99 : Index := Scalar.indexCast v89
  let c16 : Index := 16#32
  ![v99.toNat, 16]
def k0_off74 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v104 : Index := Scalar.indexCast v87
  let c16_102 : Index := 16#32
  ![v104.toNat, 16]
def k0_off75 (v89 : BitVec 32) : Fin 2 → Nat :=
  let v108 : Index := Scalar.indexCast v89
  let c32 : Index := 32#32
  ![v108.toNat, 32]
def k0_off76 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v113 : Index := Scalar.indexCast v87
  let c32_105 : Index := 32#32
  ![v113.toNat, 32]
def k0_off77 (v89 : BitVec 32) : Fin 2 → Nat :=
  let v117 : Index := Scalar.indexCast v89
  let c48 : Index := 48#32
  ![v117.toNat, 48]
def k0_off78 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v122 : Index := Scalar.indexCast v87
  let c48_108 : Index := 48#32
  ![v122.toNat, 48]
def k0_off79 (v89 : BitVec 32) : Fin 2 → Nat :=
  let v126 : Index := Scalar.indexCast v89
  let c64 : Index := 64#32
  ![v126.toNat, 64]
def k0_off80 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v131 : Index := Scalar.indexCast v87
  let c64_111 : Index := 64#32
  ![v131.toNat, 64]
def k0_off81 (v89 : BitVec 32) : Fin 2 → Nat :=
  let v135 : Index := Scalar.indexCast v89
  let c80 : Index := 80#32
  ![v135.toNat, 80]
def k0_off82 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v140 : Index := Scalar.indexCast v87
  let c80_114 : Index := 80#32
  ![v140.toNat, 80]
def k0_off83 (v89 : BitVec 32) : Fin 2 → Nat :=
  let v144 : Index := Scalar.indexCast v89
  let c96 : Index := 96#32
  ![v144.toNat, 96]
def k0_off84 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v149 : Index := Scalar.indexCast v87
  let c96_117 : Index := 96#32
  ![v149.toNat, 96]
def k0_off85 (v89 : BitVec 32) : Fin 2 → Nat :=
  let v153 : Index := Scalar.indexCast v89
  let c112 : Index := 112#32
  ![v153.toNat, 112]

def k0_chk5 (v89 : BitVec 32) : Prop :=
  (∀ a, (k0_off71 v89) a + S1x16.size a ≤ S100x128.size a) ∧
  (∀ a, (k0_off73 v89) a + S1x16.size a ≤ S100x128.size a) ∧
  (∀ a, (k0_off75 v89) a + S1x16.size a ≤ S100x128.size a) ∧
  (∀ a, (k0_off77 v89) a + S1x16.size a ≤ S100x128.size a) ∧
  (∀ a, (k0_off79 v89) a + S1x16.size a ≤ S100x128.size a) ∧
  (∀ a, (k0_off81 v89) a + S1x16.size a ≤ S100x128.size a) ∧
  (∀ a, (k0_off83 v89) a + S1x16.size a ≤ S100x128.size a) ∧
  (∀ a, (k0_off85 v89) a + S1x16.size a ≤ S100x128.size a)
theorem k0_off71_inb : ∀ (v89 : BitVec 32) (k0_hw5 : k0_chk5 v89), ∀ a, (k0_off71 v89) a + S1x16.size a ≤ S100x128.size a := fun v89 k0_hw5 => k0_hw5.1
theorem k0_off73_inb : ∀ (v89 : BitVec 32) (k0_hw5 : k0_chk5 v89), ∀ a, (k0_off73 v89) a + S1x16.size a ≤ S100x128.size a := fun v89 k0_hw5 => k0_hw5.2.1
theorem k0_off75_inb : ∀ (v89 : BitVec 32) (k0_hw5 : k0_chk5 v89), ∀ a, (k0_off75 v89) a + S1x16.size a ≤ S100x128.size a := fun v89 k0_hw5 => k0_hw5.2.2.1
theorem k0_off77_inb : ∀ (v89 : BitVec 32) (k0_hw5 : k0_chk5 v89), ∀ a, (k0_off77 v89) a + S1x16.size a ≤ S100x128.size a := fun v89 k0_hw5 => k0_hw5.2.2.2.1
theorem k0_off79_inb : ∀ (v89 : BitVec 32) (k0_hw5 : k0_chk5 v89), ∀ a, (k0_off79 v89) a + S1x16.size a ≤ S100x128.size a := fun v89 k0_hw5 => k0_hw5.2.2.2.2.1
theorem k0_off81_inb : ∀ (v89 : BitVec 32) (k0_hw5 : k0_chk5 v89), ∀ a, (k0_off81 v89) a + S1x16.size a ≤ S100x128.size a := fun v89 k0_hw5 => k0_hw5.2.2.2.2.2.1
theorem k0_off83_inb : ∀ (v89 : BitVec 32) (k0_hw5 : k0_chk5 v89), ∀ a, (k0_off83 v89) a + S1x16.size a ≤ S100x128.size a := fun v89 k0_hw5 => k0_hw5.2.2.2.2.2.2.1
theorem k0_off85_inb : ∀ (v89 : BitVec 32) (k0_hw5 : k0_chk5 v89), ∀ a, (k0_off85 v89) a + S1x16.size a ≤ S100x128.size a := fun v89 k0_hw5 => k0_hw5.2.2.2.2.2.2.2

def k0_off86 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v158 : Index := Scalar.indexCast v87
  let c112_120 : Index := 112#32
  ![v158.toNat, 112]
def k0_off87 (v165 : BitVec 32) : Fin 2 → Nat :=
  let v166 : Index := Scalar.indexCast v165
  let c0_123 : Index := 0#32
  ![v166.toNat, 0]

def k0_off88 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v171 : Index := Scalar.indexCast v163
  let c0_126 : Index := 0#32
  ![v171.toNat, 0]
def k0_off89 (v165 : BitVec 32) : Fin 2 → Nat :=
  let v175 : Index := Scalar.indexCast v165
  let c16_127 : Index := 16#32
  ![v175.toNat, 16]
def k0_off90 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v180 : Index := Scalar.indexCast v163
  let c16_130 : Index := 16#32
  ![v180.toNat, 16]
def k0_off91 (v165 : BitVec 32) : Fin 2 → Nat :=
  let v184 : Index := Scalar.indexCast v165
  let c32_131 : Index := 32#32
  ![v184.toNat, 32]
def k0_off92 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v189 : Index := Scalar.indexCast v163
  let c32_134 : Index := 32#32
  ![v189.toNat, 32]
def k0_off93 (v165 : BitVec 32) : Fin 2 → Nat :=
  let v193 : Index := Scalar.indexCast v165
  let c48_135 : Index := 48#32
  ![v193.toNat, 48]
def k0_off94 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v198 : Index := Scalar.indexCast v163
  let c48_138 : Index := 48#32
  ![v198.toNat, 48]
def k0_off95 (v165 : BitVec 32) : Fin 2 → Nat :=
  let v202 : Index := Scalar.indexCast v165
  let c64_139 : Index := 64#32
  ![v202.toNat, 64]
def k0_off96 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v207 : Index := Scalar.indexCast v163
  let c64_142 : Index := 64#32
  ![v207.toNat, 64]
def k0_off97 (v165 : BitVec 32) : Fin 2 → Nat :=
  let v211 : Index := Scalar.indexCast v165
  let c80_143 : Index := 80#32
  ![v211.toNat, 80]
def k0_off98 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v216 : Index := Scalar.indexCast v163
  let c80_146 : Index := 80#32
  ![v216.toNat, 80]
def k0_off99 (v165 : BitVec 32) : Fin 2 → Nat :=
  let v220 : Index := Scalar.indexCast v165
  let c96_147 : Index := 96#32
  ![v220.toNat, 96]
def k0_off100 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v225 : Index := Scalar.indexCast v163
  let c96_150 : Index := 96#32
  ![v225.toNat, 96]
def k0_off101 (v165 : BitVec 32) : Fin 2 → Nat :=
  let v229 : Index := Scalar.indexCast v165
  let c112_151 : Index := 112#32
  ![v229.toNat, 112]

def k0_chk6 (v165 : BitVec 32) : Prop :=
  (∀ a, (k0_off87 v165) a + S1x16.size a ≤ S100x128.size a) ∧
  (∀ a, (k0_off89 v165) a + S1x16.size a ≤ S100x128.size a) ∧
  (∀ a, (k0_off91 v165) a + S1x16.size a ≤ S100x128.size a) ∧
  (∀ a, (k0_off93 v165) a + S1x16.size a ≤ S100x128.size a) ∧
  (∀ a, (k0_off95 v165) a + S1x16.size a ≤ S100x128.size a) ∧
  (∀ a, (k0_off97 v165) a + S1x16.size a ≤ S100x128.size a) ∧
  (∀ a, (k0_off99 v165) a + S1x16.size a ≤ S100x128.size a) ∧
  (∀ a, (k0_off101 v165) a + S1x16.size a ≤ S100x128.size a)
theorem k0_off87_inb : ∀ (v165 : BitVec 32) (k0_hw6 : k0_chk6 v165), ∀ a, (k0_off87 v165) a + S1x16.size a ≤ S100x128.size a := fun v165 k0_hw6 => k0_hw6.1
theorem k0_off89_inb : ∀ (v165 : BitVec 32) (k0_hw6 : k0_chk6 v165), ∀ a, (k0_off89 v165) a + S1x16.size a ≤ S100x128.size a := fun v165 k0_hw6 => k0_hw6.2.1
theorem k0_off91_inb : ∀ (v165 : BitVec 32) (k0_hw6 : k0_chk6 v165), ∀ a, (k0_off91 v165) a + S1x16.size a ≤ S100x128.size a := fun v165 k0_hw6 => k0_hw6.2.2.1
theorem k0_off93_inb : ∀ (v165 : BitVec 32) (k0_hw6 : k0_chk6 v165), ∀ a, (k0_off93 v165) a + S1x16.size a ≤ S100x128.size a := fun v165 k0_hw6 => k0_hw6.2.2.2.1
theorem k0_off95_inb : ∀ (v165 : BitVec 32) (k0_hw6 : k0_chk6 v165), ∀ a, (k0_off95 v165) a + S1x16.size a ≤ S100x128.size a := fun v165 k0_hw6 => k0_hw6.2.2.2.2.1
theorem k0_off97_inb : ∀ (v165 : BitVec 32) (k0_hw6 : k0_chk6 v165), ∀ a, (k0_off97 v165) a + S1x16.size a ≤ S100x128.size a := fun v165 k0_hw6 => k0_hw6.2.2.2.2.2.1
theorem k0_off99_inb : ∀ (v165 : BitVec 32) (k0_hw6 : k0_chk6 v165), ∀ a, (k0_off99 v165) a + S1x16.size a ≤ S100x128.size a := fun v165 k0_hw6 => k0_hw6.2.2.2.2.2.2.1
theorem k0_off101_inb : ∀ (v165 : BitVec 32) (k0_hw6 : k0_chk6 v165), ∀ a, (k0_off101 v165) a + S1x16.size a ≤ S100x128.size a := fun v165 k0_hw6 => k0_hw6.2.2.2.2.2.2.2

def k0_off102 (k0_t4 : Fin k0_t4_loop.trips) : Fin 2 → Nat :=
  let c0_i32_92 : BitVec 32 := 0#32
  let c0_i32_54 : BitVec 32 := 0#32
  let c1_i32_56 : BitVec 32 := 1#32
  let arg11 : BitVec 32 := Scf.iv c0_i32_54 c1_i32_56 k0_t4
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v234 : Index := Scalar.indexCast v163
  let c112_154 : Index := 112#32
  ![v234.toNat, 112]
def k0_off103 (i : grid0.Coords) (k0_t3 : Fin k0_t3_loop.trips) (c0_i32_43 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_41 : BitVec 32 := 2#32
  let c0_i32_40 : BitVec 32 := 0#32
  let c0_i32_22 : BitVec 32 := 0#32
  let c1_i32_23 : BitVec 32 := 1#32
  let arg10 : BitVec 32 := Scf.iv c0_i32_22 c1_i32_23 k0_t3
  let c1_i32_39 : BitVec 32 := 1#32
  let v34 : BitVec 32 := Scalar.muli arg10 c1_i32_39
  let v35 : BitVec 32 := Scalar.addi c0_i32_40 v34
  let v36 : BitVec 32 := Scalar.muli c2_i32_41 v35
  let c2_i32_42 : BitVec 32 := 2#32
  let v37 : BitVec 32 := Scalar.addi v36 c2_i32_42
  let v38 : BitVec 32 := Scalar.addi v37 c0_i32_43
  let c256_i32_58 : BitVec 32 := 256#32
  let v49 : BitVec 32 := Scalar.muli v38 c256_i32_58
  let v50 : BitVec 32 := Scalar.addi v2 v49
  let c0_i32_62 : BitVec 32 := 0#32
  ![v50.toNat, 0]
@[reducible] def k0_t5_loop : Scf.Loop 32 :=
  let c0_i32_79 : BitVec 32 := 0#32
  let c128_i32_80 : BitVec 32 := 128#32
  let v69 : BitVec 32 := Scalar.addi c0_i32_79 c128_i32_80
  let c1_i32_81 : BitVec 32 := 1#32
  ⟨c0_i32_79, v69, c1_i32_81⟩
def k0_off104 (k0_t3 : Fin k0_t3_loop.trips) (k0_t5 : Fin k0_t5_loop.trips) : Fin 1 → Nat :=
  let c2_i32_66 : BitVec 32 := 2#32
  let c0_i32_40 : BitVec 32 := 0#32
  let c0_i32_22 : BitVec 32 := 0#32
  let c1_i32_23 : BitVec 32 := 1#32
  let arg10 : BitVec 32 := Scf.iv c0_i32_22 c1_i32_23 k0_t3
  let c1_i32_39 : BitVec 32 := 1#32
  let v34 : BitVec 32 := Scalar.muli arg10 c1_i32_39
  let v35 : BitVec 32 := Scalar.addi c0_i32_40 v34
  let v57 : BitVec 32 := Scalar.muli c2_i32_66 v35
  let c2_i32_67 : BitVec 32 := 2#32
  let v58 : BitVec 32 := Scalar.addi v57 c2_i32_67
  let c1_i32_68 : BitVec 32 := 1#32
  let v59 : BitVec 32 := Scalar.addi v58 c1_i32_68
  let c256_i32_93 : BitVec 32 := 256#32
  let v80 : BitVec 32 := Scalar.muli v59 c256_i32_93
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_94 : BitVec 32 := 2#32
  let v81 : BitVec 32 := Scalar.muli v79 c2_i32_94
  let v82 : BitVec 32 := Scalar.addi v80 v81
  let v83 : Index := Scalar.indexCast v82
  ![v83.toNat]
def k0_off105 (v89 : BitVec 32) : Fin 2 → Nat :=
  let v90 : Index := Scalar.indexCast v89
  let c0 : Index := 0#32
  ![v90.toNat, 0]

def k0_off106 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v95 : Index := Scalar.indexCast v87
  let c0_99 : Index := 0#32
  ![v95.toNat, 0]
def k0_off107 (v89 : BitVec 32) : Fin 2 → Nat :=
  let v99 : Index := Scalar.indexCast v89
  let c16 : Index := 16#32
  ![v99.toNat, 16]
def k0_off108 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v104 : Index := Scalar.indexCast v87
  let c16_102 : Index := 16#32
  ![v104.toNat, 16]
def k0_off109 (v89 : BitVec 32) : Fin 2 → Nat :=
  let v108 : Index := Scalar.indexCast v89
  let c32 : Index := 32#32
  ![v108.toNat, 32]
def k0_off110 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v113 : Index := Scalar.indexCast v87
  let c32_105 : Index := 32#32
  ![v113.toNat, 32]
def k0_off111 (v89 : BitVec 32) : Fin 2 → Nat :=
  let v117 : Index := Scalar.indexCast v89
  let c48 : Index := 48#32
  ![v117.toNat, 48]
def k0_off112 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v122 : Index := Scalar.indexCast v87
  let c48_108 : Index := 48#32
  ![v122.toNat, 48]
def k0_off113 (v89 : BitVec 32) : Fin 2 → Nat :=
  let v126 : Index := Scalar.indexCast v89
  let c64 : Index := 64#32
  ![v126.toNat, 64]
def k0_off114 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v131 : Index := Scalar.indexCast v87
  let c64_111 : Index := 64#32
  ![v131.toNat, 64]
def k0_off115 (v89 : BitVec 32) : Fin 2 → Nat :=
  let v135 : Index := Scalar.indexCast v89
  let c80 : Index := 80#32
  ![v135.toNat, 80]
def k0_off116 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v140 : Index := Scalar.indexCast v87
  let c80_114 : Index := 80#32
  ![v140.toNat, 80]
def k0_off117 (v89 : BitVec 32) : Fin 2 → Nat :=
  let v144 : Index := Scalar.indexCast v89
  let c96 : Index := 96#32
  ![v144.toNat, 96]
def k0_off118 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v149 : Index := Scalar.indexCast v87
  let c96_117 : Index := 96#32
  ![v149.toNat, 96]
def k0_off119 (v89 : BitVec 32) : Fin 2 → Nat :=
  let v153 : Index := Scalar.indexCast v89
  let c112 : Index := 112#32
  ![v153.toNat, 112]

def k0_chk7 (v89 : BitVec 32) : Prop :=
  (∀ a, (k0_off105 v89) a + S1x16.size a ≤ S100x128.size a) ∧
  (∀ a, (k0_off107 v89) a + S1x16.size a ≤ S100x128.size a) ∧
  (∀ a, (k0_off109 v89) a + S1x16.size a ≤ S100x128.size a) ∧
  (∀ a, (k0_off111 v89) a + S1x16.size a ≤ S100x128.size a) ∧
  (∀ a, (k0_off113 v89) a + S1x16.size a ≤ S100x128.size a) ∧
  (∀ a, (k0_off115 v89) a + S1x16.size a ≤ S100x128.size a) ∧
  (∀ a, (k0_off117 v89) a + S1x16.size a ≤ S100x128.size a) ∧
  (∀ a, (k0_off119 v89) a + S1x16.size a ≤ S100x128.size a)
theorem k0_off105_inb : ∀ (v89 : BitVec 32) (k0_hw7 : k0_chk7 v89), ∀ a, (k0_off105 v89) a + S1x16.size a ≤ S100x128.size a := fun v89 k0_hw7 => k0_hw7.1
theorem k0_off107_inb : ∀ (v89 : BitVec 32) (k0_hw7 : k0_chk7 v89), ∀ a, (k0_off107 v89) a + S1x16.size a ≤ S100x128.size a := fun v89 k0_hw7 => k0_hw7.2.1
theorem k0_off109_inb : ∀ (v89 : BitVec 32) (k0_hw7 : k0_chk7 v89), ∀ a, (k0_off109 v89) a + S1x16.size a ≤ S100x128.size a := fun v89 k0_hw7 => k0_hw7.2.2.1
theorem k0_off111_inb : ∀ (v89 : BitVec 32) (k0_hw7 : k0_chk7 v89), ∀ a, (k0_off111 v89) a + S1x16.size a ≤ S100x128.size a := fun v89 k0_hw7 => k0_hw7.2.2.2.1
theorem k0_off113_inb : ∀ (v89 : BitVec 32) (k0_hw7 : k0_chk7 v89), ∀ a, (k0_off113 v89) a + S1x16.size a ≤ S100x128.size a := fun v89 k0_hw7 => k0_hw7.2.2.2.2.1
theorem k0_off115_inb : ∀ (v89 : BitVec 32) (k0_hw7 : k0_chk7 v89), ∀ a, (k0_off115 v89) a + S1x16.size a ≤ S100x128.size a := fun v89 k0_hw7 => k0_hw7.2.2.2.2.2.1
theorem k0_off117_inb : ∀ (v89 : BitVec 32) (k0_hw7 : k0_chk7 v89), ∀ a, (k0_off117 v89) a + S1x16.size a ≤ S100x128.size a := fun v89 k0_hw7 => k0_hw7.2.2.2.2.2.2.1
theorem k0_off119_inb : ∀ (v89 : BitVec 32) (k0_hw7 : k0_chk7 v89), ∀ a, (k0_off119 v89) a + S1x16.size a ≤ S100x128.size a := fun v89 k0_hw7 => k0_hw7.2.2.2.2.2.2.2

def k0_off120 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_95 : BitVec 32 := 2#32
  let v86 : BitVec 32 := Scalar.muli v79 c2_i32_95
  let c0_i32_96 : BitVec 32 := 0#32
  let v87 : BitVec 32 := Scalar.addi v86 c0_i32_96
  let v158 : Index := Scalar.indexCast v87
  let c112_120 : Index := 112#32
  ![v158.toNat, 112]
def k0_off121 (v165 : BitVec 32) : Fin 2 → Nat :=
  let v166 : Index := Scalar.indexCast v165
  let c0_123 : Index := 0#32
  ![v166.toNat, 0]

def k0_off122 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v171 : Index := Scalar.indexCast v163
  let c0_126 : Index := 0#32
  ![v171.toNat, 0]
def k0_off123 (v165 : BitVec 32) : Fin 2 → Nat :=
  let v175 : Index := Scalar.indexCast v165
  let c16_127 : Index := 16#32
  ![v175.toNat, 16]
def k0_off124 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v180 : Index := Scalar.indexCast v163
  let c16_130 : Index := 16#32
  ![v180.toNat, 16]
def k0_off125 (v165 : BitVec 32) : Fin 2 → Nat :=
  let v184 : Index := Scalar.indexCast v165
  let c32_131 : Index := 32#32
  ![v184.toNat, 32]
def k0_off126 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v189 : Index := Scalar.indexCast v163
  let c32_134 : Index := 32#32
  ![v189.toNat, 32]
def k0_off127 (v165 : BitVec 32) : Fin 2 → Nat :=
  let v193 : Index := Scalar.indexCast v165
  let c48_135 : Index := 48#32
  ![v193.toNat, 48]
def k0_off128 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v198 : Index := Scalar.indexCast v163
  let c48_138 : Index := 48#32
  ![v198.toNat, 48]
def k0_off129 (v165 : BitVec 32) : Fin 2 → Nat :=
  let v202 : Index := Scalar.indexCast v165
  let c64_139 : Index := 64#32
  ![v202.toNat, 64]
def k0_off130 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v207 : Index := Scalar.indexCast v163
  let c64_142 : Index := 64#32
  ![v207.toNat, 64]
def k0_off131 (v165 : BitVec 32) : Fin 2 → Nat :=
  let v211 : Index := Scalar.indexCast v165
  let c80_143 : Index := 80#32
  ![v211.toNat, 80]
def k0_off132 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v216 : Index := Scalar.indexCast v163
  let c80_146 : Index := 80#32
  ![v216.toNat, 80]
def k0_off133 (v165 : BitVec 32) : Fin 2 → Nat :=
  let v220 : Index := Scalar.indexCast v165
  let c96_147 : Index := 96#32
  ![v220.toNat, 96]
def k0_off134 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v225 : Index := Scalar.indexCast v163
  let c96_150 : Index := 96#32
  ![v225.toNat, 96]
def k0_off135 (v165 : BitVec 32) : Fin 2 → Nat :=
  let v229 : Index := Scalar.indexCast v165
  let c112_151 : Index := 112#32
  ![v229.toNat, 112]

def k0_chk8 (v165 : BitVec 32) : Prop :=
  (∀ a, (k0_off121 v165) a + S1x16.size a ≤ S100x128.size a) ∧
  (∀ a, (k0_off123 v165) a + S1x16.size a ≤ S100x128.size a) ∧
  (∀ a, (k0_off125 v165) a + S1x16.size a ≤ S100x128.size a) ∧
  (∀ a, (k0_off127 v165) a + S1x16.size a ≤ S100x128.size a) ∧
  (∀ a, (k0_off129 v165) a + S1x16.size a ≤ S100x128.size a) ∧
  (∀ a, (k0_off131 v165) a + S1x16.size a ≤ S100x128.size a) ∧
  (∀ a, (k0_off133 v165) a + S1x16.size a ≤ S100x128.size a) ∧
  (∀ a, (k0_off135 v165) a + S1x16.size a ≤ S100x128.size a)
theorem k0_off121_inb : ∀ (v165 : BitVec 32) (k0_hw8 : k0_chk8 v165), ∀ a, (k0_off121 v165) a + S1x16.size a ≤ S100x128.size a := fun v165 k0_hw8 => k0_hw8.1
theorem k0_off123_inb : ∀ (v165 : BitVec 32) (k0_hw8 : k0_chk8 v165), ∀ a, (k0_off123 v165) a + S1x16.size a ≤ S100x128.size a := fun v165 k0_hw8 => k0_hw8.2.1
theorem k0_off125_inb : ∀ (v165 : BitVec 32) (k0_hw8 : k0_chk8 v165), ∀ a, (k0_off125 v165) a + S1x16.size a ≤ S100x128.size a := fun v165 k0_hw8 => k0_hw8.2.2.1
theorem k0_off127_inb : ∀ (v165 : BitVec 32) (k0_hw8 : k0_chk8 v165), ∀ a, (k0_off127 v165) a + S1x16.size a ≤ S100x128.size a := fun v165 k0_hw8 => k0_hw8.2.2.2.1
theorem k0_off129_inb : ∀ (v165 : BitVec 32) (k0_hw8 : k0_chk8 v165), ∀ a, (k0_off129 v165) a + S1x16.size a ≤ S100x128.size a := fun v165 k0_hw8 => k0_hw8.2.2.2.2.1
theorem k0_off131_inb : ∀ (v165 : BitVec 32) (k0_hw8 : k0_chk8 v165), ∀ a, (k0_off131 v165) a + S1x16.size a ≤ S100x128.size a := fun v165 k0_hw8 => k0_hw8.2.2.2.2.2.1
theorem k0_off133_inb : ∀ (v165 : BitVec 32) (k0_hw8 : k0_chk8 v165), ∀ a, (k0_off133 v165) a + S1x16.size a ≤ S100x128.size a := fun v165 k0_hw8 => k0_hw8.2.2.2.2.2.2.1
theorem k0_off135_inb : ∀ (v165 : BitVec 32) (k0_hw8 : k0_chk8 v165), ∀ a, (k0_off135 v165) a + S1x16.size a ≤ S100x128.size a := fun v165 k0_hw8 => k0_hw8.2.2.2.2.2.2.2

def k0_off136 (k0_t5 : Fin k0_t5_loop.trips) : Fin 2 → Nat :=
  let c0_i32_92 : BitVec 32 := 0#32
  let c0_i32_79 : BitVec 32 := 0#32
  let c1_i32_81 : BitVec 32 := 1#32
  let arg11 : BitVec 32 := Scf.iv c0_i32_79 c1_i32_81 k0_t5
  let c1_i32_91 : BitVec 32 := 1#32
  let v78 : BitVec 32 := Scalar.muli arg11 c1_i32_91
  let v79 : BitVec 32 := Scalar.addi c0_i32_92 v78
  let c2_i32_121 : BitVec 32 := 2#32
  let v162 : BitVec 32 := Scalar.muli v79 c2_i32_121
  let c1_i32_122 : BitVec 32 := 1#32
  let v163 : BitVec 32 := Scalar.addi v162 c1_i32_122
  let v234 : Index := Scalar.indexCast v163
  let c112_154 : Index := 112#32
  ![v234.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x200 : Shape := ⟨2, ![4096, 200]⟩
abbrev S100x128 : Shape := ⟨2, ![100, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  What every module of this proof names: the program as the launch theorem sees it, the resource algebra (the launch
  handshakes beside the transfers' counters), the arrays and scratches, and the function the kernel computes —
  `lookup`, one row of the table at one index word.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The algebra every assertion of this proof lives in. -/
abbrev MM (F : FTy → Type) := MT nD τ sig (HIx 1) (Elt F) ℕ UU ℕ

abbrev EH : Emb UH (MM F) := embL
/-- The transfers' counters, the right factor. -/
abbrev EC : UEmb Counters (MM F) := countersEmb

/-! ## The tiles -/

/-- The SparseCore and the subcore a grid point names. -/
abbrev cV (L : grid0.Coords) : Fin τ.nSC := (L 0).castLE hcore0
abbrev jV (L : grid0.Coords) : Fin τ.nSub := (L 1).castLE hsub0
/-- The vector subcore's thread. -/
abbrev thr (d : Dev nD) (L : grid0.Coords) : Thread nD τ := V d (cV L) (jV L)

/-! ## One lookup -/

/-- A column of the table as an index of its shape, the row clamped to the table's last. -/
def tabIx (v : BitVec 32) (c : Fin 128) : S100x128.Idx := fun | 0 => ⟨min v.toNat 99, by show _ < 100; omega⟩ | 1 => c

/-- Column `c` of the table's row `v`. -/
def lookup {α : Type} (t : S100x128.Idx → α) (v : BitVec 32) (c : Fin 128) : α := t (tabIx v c)

/-- Position `n` of a tile's index slice. -/
def slIx (n : ℕ) (h : n < 25600) : S25600.Idx := fun | 0 => ⟨n, h⟩

end Cert.Proof

end
-- ==== Proof.Trip.lean ====
/-
  One trip of a build loop, as a program: the two index words the trip reads, and for each of them the eight pieces of
  sixteen columns copied from the table's row to the slot's row. The four loops of the kernel are this program at their
  own offsets (`t1_body_eq` … `t5_body_eq`).
-/
module

public import proofs.«01_k».proof.Proof.Setup

@[expose] public section

noncomputable section

namespace Cert.Proof

open Cert.KernelIdeal Cert.KernelIdeal.Gen
open Idealize.ShloMosaic Idealize.SL.Sem

variable {F : FTy → Type} [FloatOps F] {p : Proc τ}

/-- Sixteen columns: read from the table at `o`, the slot's old contents read and dropped, the columns stored at `o'`. -/
def cell (m6 : Memref sig .scVector .vmem S100x128 .f32) (sl : Memref sig .scVector .vmem S256x128 .f32)
    (o : Fin 2 → ℕ) (ho : ∀ a, o a + S1x16.size a ≤ S100x128.size a) (o' : Fin 2 → ℕ) (ho' : ∀ a, o' a + S1x16.size a ≤ S256x128.size a)
    (i j) : Prog (TpuEff nD τ sig (Elt F) Λ₀ (.scVector i j)) PUnit := do
  let v : Vec F S1x16 .f32 ← Prog.lift (.load m6 (Rect.unit (s := S100x128) o S1x16.size ho).toLoadRect (View.loadsAt_vmem h_S1x16))
  let _ : Vec F S1x16 .f32 ← Prog.lift (.load sl (Rect.unit (s := S256x128) o' S1x16.size ho').toLoadRect (View.loadsAt_vmem h_S1x16))
  Prog.lift (.store sl (Rect.unit (s := S256x128) o' S1x16.size ho') (k0_pay4 v) Finset.univ (View.stores_vmem_bits_univ h_S1x16 rfl) (.inl rfl))

/-- A whole row: its eight pieces, left to right. -/
def row (m6 : Memref sig .scVector .vmem S100x128 .f32) (sl : Memref sig .scVector .vmem S256x128 .f32)
    (o : Fin 8 → Fin 2 → ℕ) (ho : ∀ j a, o j a + S1x16.size a ≤ S100x128.size a) (o' : Fin 8 → Fin 2 → ℕ) (ho' : ∀ j a, o' j a + S1x16.size a ≤ S256x128.size a)
    (i j) : Prog (TpuEff nD τ sig (Elt F) Λ₀ (.scVector i j)) PUnit := do
  cell m6 sl (o 0) (ho 0) (o' 0) (ho' 0) i j
  cell m6 sl (o 1) (ho 1) (o' 1) (ho' 1) i j
  cell m6 sl (o 2) (ho 2) (o' 2) (ho' 2) i j
  cell m6 sl (o 3) (ho 3) (o' 3) (ho' 3) i j
  cell m6 sl (o 4) (ho 4) (o' 4) (ho' 4) i j
  cell m6 sl (o 5) (ho 5) (o' 5) (ho' 5) i j
  cell m6 sl (o 6) (ho 6) (o' 6) (ho' 6) i j
  cell m6 sl (o 7) (ho 7) (o' 7) (ho' 7) i j

/-- The first and the second index word a trip read. -/
def word0 (w : Vec F S2 .i32) : BitVec 32 := extractAt ![0] (k0_pay3 w) inpos_S1_p0
def word1 (w : Vec F S2 .i32) : BitVec 32 := extractAt ![0] (k0_pay12 (k0_pay2 w)) inpos_S1_p0

/-- What a loop gives its trip: the check its index words pass, where its pieces are read and where they go. -/
structure Offs where
  o5 : Fin 1 → ℕ
  h5 : ∀ a, o5 a + S2.size a ≤ S25600.size a
  chk0 : BitVec 32 → Prop
  dec0 : ∀ v, Decidable (chk0 v)
  chk1 : BitVec 32 → Prop
  dec1 : ∀ v, Decidable (chk1 v)
  src0 : BitVec 32 → Fin 8 → Fin 2 → ℕ
  hsrc0 : ∀ v, chk0 v → ∀ j a, src0 v j a + S1x16.size a ≤ S100x128.size a
  src1 : BitVec 32 → Fin 8 → Fin 2 → ℕ
  hsrc1 : ∀ v, chk1 v → ∀ j a, src1 v j a + S1x16.size a ≤ S100x128.size a
  dst0 : Fin 8 → Fin 2 → ℕ
  hdst0 : ∀ j a, dst0 j a + S1x16.size a ≤ S256x128.size a
  dst1 : Fin 8 → Fin 2 → ℕ
  hdst1 : ∀ j a, dst1 j a + S1x16.size a ≤ S256x128.size a

/-- One trip of a build loop. -/
def trip (m5 : Memref sig .scVector .vmem S25600 .i32) (m6 : Memref sig .scVector .vmem S100x128 .f32) (sl : Memref sig .scVector .vmem S256x128 .f32)
    (g : Offs) (i j) : Prog (TpuEff nD τ sig (Elt F) Λ₀ (.scVector i j)) Unit := do
  let w : Vec F S2 .i32 ← Prog.lift (.load m5 (Rect.unit (s := S25600) g.o5 S2.size g.h5).toLoadRect (View.loadsAt_vmem h_S2))
  let c0 := (← Prog.lift (TpuEff.assume (g.chk0 (word0 w)) (g.dec0 (word0 w)))).down
  row m6 sl (g.src0 (word0 w)) (g.hsrc0 _ c0) g.dst0 g.hdst0 i j
  let c1 := (← Prog.lift (TpuEff.assume (g.chk1 (word1 w)) (g.dec1 (word1 w)))).down
  row m6 sl (g.src1 (word1 w)) (g.hsrc1 _ c1) g.dst1 g.hdst1 i j
  pure ⟨⟩

/-- Slot `0` and slot `1` of the row buffer, as a tile's memrefs. -/
abbrev slot0 (m7 : Memref sig .scVector .vmem S2x256x128 .f32) : Memref sig .scVector .vmem S256x128 .f32 :=
  (m7.slice (Rect.unit (s := S2x256x128) ![0, 0, 0] S1x256x128.size inb_S2x256x128_S1x256x128_0_0_0) (fun _ => rfl)).squeeze S256x128 squeezes_S1x256x128_S256x128
abbrev slot1 (m7 : Memref sig .scVector .vmem S2x256x128 .f32) : Memref sig .scVector .vmem S256x128 .f32 :=
  (m7.slice (Rect.unit (s := S2x256x128) ![1, 0, 0] S1x256x128.size inb_S2x256x128_S1x256x128_1_0_0) (fun _ => rfl)).squeeze S256x128 squeezes_S1x256x128_S256x128

/-- The first loop's offsets at trip `t`. -/
def offs1 (t : Fin k0_t1_loop.trips) : Offs where
  o5 := k0_off2 t
  h5 := k0_off2_inb t
  chk0 := k0_chk1
  dec0 := k0_chk1.dec
  chk1 := k0_chk2
  dec1 := k0_chk2.dec
  src0 v := ![k0_off3 v, k0_off5 v, k0_off7 v, k0_off9 v, k0_off11 v, k0_off13 v, k0_off15 v, k0_off17 v]
  hsrc0 v h := fun
    | 0 => k0_off3_inb v h | 1 => k0_off5_inb v h | 2 => k0_off7_inb v h | 3 => k0_off9_inb v h
    | 4 => k0_off11_inb v h | 5 => k0_off13_inb v h | 6 => k0_off15_inb v h | 7 => k0_off17_inb v h
  src1 v := ![k0_off19 v, k0_off21 v, k0_off23 v, k0_off25 v, k0_off27 v, k0_off29 v, k0_off31 v, k0_off33 v]
  hsrc1 v h := fun
    | 0 => k0_off19_inb v h | 1 => k0_off21_inb v h | 2 => k0_off23_inb v h | 3 => k0_off25_inb v h
    | 4 => k0_off27_inb v h | 5 => k0_off29_inb v h | 6 => k0_off31_inb v h | 7 => k0_off33_inb v h
  dst0 := ![k0_off4 t, k0_off6 t, k0_off8 t, k0_off10 t, k0_off12 t, k0_off14 t, k0_off16 t, k0_off18 t]
  hdst0 := fun
    | 0 => k0_off4_inb t | 1 => k0_off6_inb t | 2 => k0_off8_inb t | 3 => k0_off10_inb t
    | 4 => k0_off12_inb t | 5 => k0_off14_inb t | 6 => k0_off16_inb t | 7 => k0_off18_inb t
  dst1 := ![k0_off20 t, k0_off22 t, k0_off24 t, k0_off26 t, k0_off28 t, k0_off30 t, k0_off32 t, k0_off34 t]
  hdst1 := fun
    | 0 => k0_off20_inb t | 1 => k0_off22_inb t | 2 => k0_off24_inb t | 3 => k0_off26_inb t
    | 4 => k0_off28_inb t | 5 => k0_off30_inb t | 6 => k0_off32_inb t | 7 => k0_off34_inb t

/-- The second loop's. -/
def offs2 (t : Fin k0_t2_loop.trips) : Offs where
  o5 := k0_off36 t
  h5 := k0_off36_inb t
  chk0 := k0_chk3
  dec0 := k0_chk3.dec
  chk1 := k0_chk4
  dec1 := k0_chk4.dec
  src0 v := ![k0_off37 v, k0_off39 v, k0_off41 v, k0_off43 v, k0_off45 v, k0_off47 v, k0_off49 v, k0_off51 v]
  hsrc0 v h := fun
    | 0 => k0_off37_inb v h | 1 => k0_off39_inb v h | 2 => k0_off41_inb v h | 3 => k0_off43_inb v h
    | 4 => k0_off45_inb v h | 5 => k0_off47_inb v h | 6 => k0_off49_inb v h | 7 => k0_off51_inb v h
  src1 v := ![k0_off53 v, k0_off55 v, k0_off57 v, k0_off59 v, k0_off61 v, k0_off63 v, k0_off65 v, k0_off67 v]
  hsrc1 v h := fun
    | 0 => k0_off53_inb v h | 1 => k0_off55_inb v h | 2 => k0_off57_inb v h | 3 => k0_off59_inb v h
    | 4 => k0_off61_inb v h | 5 => k0_off63_inb v h | 6 => k0_off65_inb v h | 7 => k0_off67_inb v h
  dst0 := ![k0_off38 t, k0_off40 t, k0_off42 t, k0_off44 t, k0_off46 t, k0_off48 t, k0_off50 t, k0_off52 t]
  hdst0 := fun
    | 0 => k0_off38_inb t | 1 => k0_off40_inb t | 2 => k0_off42_inb t | 3 => k0_off44_inb t
    | 4 => k0_off46_inb t | 5 => k0_off48_inb t | 6 => k0_off50_inb t | 7 => k0_off52_inb t
  dst1 := ![k0_off54 t, k0_off56 t, k0_off58 t, k0_off60 t, k0_off62 t, k0_off64 t, k0_off66 t, k0_off68 t]
  hdst1 := fun
    | 0 => k0_off54_inb t | 1 => k0_off56_inb t | 2 => k0_off58_inb t | 3 => k0_off60_inb t
    | 4 => k0_off62_inb t | 5 => k0_off64_inb t | 6 => k0_off66_inb t | 7 => k0_off68_inb t

/-- Slot 0's loop inside the pipelined loop, at its trip `u`. -/
def offs4 (u : Fin k0_t3_loop.trips) (t : Fin k0_t4_loop.trips) : Offs where
  o5 := k0_off70 u t
  h5 := k0_off70_inb u t
  chk0 := k0_chk5
  dec0 := k0_chk5.dec
  chk1 := k0_chk6
  dec1 := k0_chk6.dec
  src0 v := ![k0_off71 v, k0_off73 v, k0_off75 v, k0_off77 v, k0_off79 v, k0_off81 v, k0_off83 v, k0_off85 v]
  hsrc0 v h := fun
    | 0 => k0_off71_inb v h | 1 => k0_off73_inb v h | 2 => k0_off75_inb v h | 3 => k0_off77_inb v h
    | 4 => k0_off79_inb v h | 5 => k0_off81_inb v h | 6 => k0_off83_inb v h | 7 => k0_off85_inb v h
  src1 v := ![k0_off87 v, k0_off89 v, k0_off91 v, k0_off93 v, k0_off95 v, k0_off97 v, k0_off99 v, k0_off101 v]
  hsrc1 v h := fun
    | 0 => k0_off87_inb v h | 1 => k0_off89_inb v h | 2 => k0_off91_inb v h | 3 => k0_off93_inb v h
    | 4 => k0_off95_inb v h | 5 => k0_off97_inb v h | 6 => k0_off99_inb v h | 7 => k0_off101_inb v h
  dst0 := ![k0_off72 t, k0_off74 t, k0_off76 t, k0_off78 t, k0_off80 t, k0_off82 t, k0_off84 t, k0_off86 t]
  hdst0 := fun
    | 0 => k0_off72_inb t | 1 => k0_off74_inb t | 2 => k0_off76_inb t | 3 => k0_off78_inb t
    | 4 => k0_off80_inb t | 5 => k0_off82_inb t | 6 => k0_off84_inb t | 7 => k0_off86_inb t
  dst1 := ![k0_off88 t, k0_off90 t, k0_off92 t, k0_off94 t, k0_off96 t, k0_off98 t, k0_off100 t, k0_off102 t]
  hdst1 := fun
    | 0 => k0_off88_inb t | 1 => k0_off90_inb t | 2 => k0_off92_inb t | 3 => k0_off94_inb t
    | 4 => k0_off96_inb t | 5 => k0_off98_inb t | 6 => k0_off100_inb t | 7 => k0_off102_inb t

/-- Slot 1's. -/
def offs5 (u : Fin k0_t3_loop.trips) (t : Fin k0_t5_loop.trips) : Offs where
  o5 := k0_off104 u t
  h5 := k0_off104_inb u t
  chk0 := k0_chk7
  dec0 := k0_chk7.dec
  chk1 := k0_chk8
  dec1 := k0_chk8.dec
  src0 v := ![k0_off105 v, k0_off107 v, k0_off109 v, k0_off111 v, k0_off113 v, k0_off115 v, k0_off117 v, k0_off119 v]
  hsrc0 v h := fun
    | 0 => k0_off105_inb v h | 1 => k0_off107_inb v h | 2 => k0_off109_inb v h | 3 => k0_off111_inb v h
    | 4 => k0_off113_inb v h | 5 => k0_off115_inb v h | 6 => k0_off117_inb v h | 7 => k0_off119_inb v h
  src1 v := ![k0_off121 v, k0_off123 v, k0_off125 v, k0_off127 v, k0_off129 v, k0_off131 v, k0_off133 v, k0_off135 v]
  hsrc1 v h := fun
    | 0 => k0_off121_inb v h | 1 => k0_off123_inb v h | 2 => k0_off125_inb v h | 3 => k0_off127_inb v h
    | 4 => k0_off129_inb v h | 5 => k0_off131_inb v h | 6 => k0_off133_inb v h | 7 => k0_off135_inb v h
  dst0 := ![k0_off106 t, k0_off108 t, k0_off110 t, k0_off112 t, k0_off114 t, k0_off116 t, k0_off118 t, k0_off120 t]
  hdst0 := fun
    | 0 => k0_off106_inb t | 1 => k0_off108_inb t | 2 => k0_off110_inb t | 3 => k0_off112_inb t
    | 4 => k0_off114_inb t | 5 => k0_off116_inb t | 6 => k0_off118_inb t | 7 => k0_off120_inb t
  dst1 := ![k0_off122 t, k0_off124 t, k0_off126 t, k0_off128 t, k0_off130 t, k0_off132 t, k0_off134 t, k0_off136 t]
  hdst1 := fun
    | 0 => k0_off122_inb t | 1 => k0_off124_inb t | 2 => k0_off126_inb t | 3 => k0_off128_inb t
    | 4 => k0_off130_inb t | 5 => k0_off132_inb t | 6 => k0_off134_inb t | 7 => k0_off136_inb t

section Bodies

variable (i : grid0.Coords) (arg2 : Memref sig .scVector .hbm S819200 .i32) (harg2 : arg2.IsWhole) (arg3 : Memref sig .scVector .hbm S100x128 .f32) (harg3 : arg3.IsWhole)
  (arg4 : Memref sig .scVector .hbm S819200x128 .f32) (harg4 : arg4.IsWhole) (arg5 : Memref sig .scVector .vmem S25600 .i32) (harg5 : arg5.IsWhole)
  (arg6 : Memref sig .scVector .vmem S100x128 .f32) (harg6 : arg6.IsWhole) (arg7 : Memref sig .scVector .vmem S2x256x128 .f32) (harg7 : arg7.IsWhole)
  (a8 a9 r0 r1 : DmaSems sig S_)

set_option maxRecDepth 65536 in
theorem t1_body_eq : k0_t1_body (F := F) i arg2 harg2 arg3 harg3 arg4 harg4 arg5 harg5 arg6 harg6 arg7 harg7 a8 a9 r0 r1
    = fun t _ => trip arg5 arg6 (slot0 arg7) (offs1 t) _ _ := rfl
set_option maxRecDepth 65536 in
theorem t2_body_eq : k0_t2_body (F := F) i arg2 harg2 arg3 harg3 arg4 harg4 arg5 harg5 arg6 harg6 arg7 harg7 a8 a9 r0 r1
    = fun t _ => trip arg5 arg6 (slot1 arg7) (offs2 t) _ _ := rfl
set_option maxRecDepth 65536 in
theorem t4_body_eq (v2 c0 c1 : BitVec 32) (u : Fin k0_t3_loop.trips) (v38 : BitVec 32) :
    k0_t4_body (F := F) i arg2 harg2 arg3 harg3 arg4 harg4 arg5 harg5 arg6 harg6 arg7 harg7 a8 a9 r0 r1 v2 c0 c1 u v38
    = fun t _ => trip arg5 arg6 (slot0 arg7) (offs4 u t) _ _ := rfl
set_option maxRecDepth 65536 in
theorem t5_body_eq (u : Fin k0_t3_loop.trips) (v59 : BitVec 32) :
    k0_t5_body (F := F) i arg2 harg2 arg3 harg3 arg4 harg4 arg5 harg5 arg6 harg6 arg7 harg7 a8 a9 r0 r1 u v59
    = fun t _ => trip arg5 arg6 (slot1 arg7) (offs5 u t) _ _ := rfl

end Bodies

end Cert.Proof

end
-- ==== Proof.Build.lean ====
/-
  What a build loop leaves, proved ONCE for all four: a slot is filled piece by piece, sixteen columns at a time in
  row-major order, and `Slot n W` says that the first `n` pieces hold the wanted contents `W`. One piece (`wp_cell`),
  one row (`wp_row`), one trip (`wp_trip`), the loop (`wp_build`).
-/
module

public import proofs.«01_k».proof.Proof.Trip
public import Idealize.ShloMosaic.Lib.Pipeline.Value

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- The cast to sixteen columns and back is the identity. -/
theorem pay4_eq (v : Vec F S1x16 .f32) : k0_pay4 v = v := by
  unfold k0_pay4
  exact shapeCast_shapeCast v _ _

/-- The position `b` of a pair. -/
def pairIx (b : ℕ) (h : b < 2) : S2.Idx := fun | 0 => ⟨b, h⟩

theorem word0_eq (w : Vec F S2 .i32) : word0 w = w (pairIx 0 (by omega)) := by
  unfold word0 k0_pay3 k0_pay2 extractAt extractStridedSlice
  rw [shapeCast_self]
  exact congrArg w (funext fun a => by obtain rfl : a = 0 := Subsingleton.elim _ _; rfl)

theorem word1_eq (w : Vec F S2 .i32) : word1 w = w (pairIx 1 (by omega)) := by
  unfold word1 k0_pay12 k0_pay2 extractAt extractStridedSlice
  rw [shapeCast_self]
  exact congrArg w (funext fun a => by obtain rfl : a = 0 := Subsingleton.elim _ _; rfl)

/-- The contents the slot is to hold for the 256 index words from `cb` on. -/
def want (t : S100x128.Idx → Elt F .f32) (ix : S25600.Idx → BitVec 32) (cb : ℕ) (h : cb + 256 ≤ 25600) (y : S256x128.Idx) : Elt F .f32 :=
  lookup t (ix (slIx (cb + (y 0).val) (by have : (y 0).val < 256 := (y 0).isLt; omega))) (y 1)

theorem want_row (t : S100x128.Idx → Elt F .f32) (ix : S25600.Idx → BitVec 32) (cb : ℕ) (h : cb + 256 ≤ 25600) (y : S256x128.Idx) (n : ℕ) (hn : n < 25600)
    (e : cb + (y 0).val = n) : want t ix cb h y = lookup t (ix (slIx n hn)) (y 1) := by
  subst e; rfl

section Slot

variable {κ : Kind} (sl : Memref sig κ .vmem S256x128 .f32)

/-- The first `n` pieces (sixteen columns each, row-major) hold `W`. -/
def Built (f : sl.view.ty.Contents (Elt F)) (n : ℕ) (W : S256x128.Idx → Elt F .f32) : Prop :=
  ∀ y : S256x128.Idx, 8 * (y 0).val + (y 1).val / 16 < n → sl.view.read (Elt F) f y = W y

theorem Built.zero (f : sl.view.ty.Contents (Elt F)) (W : S256x128.Idx → Elt F .f32) : Built sl f 0 W := fun _ h => absurd h (by omega)

theorem Built.full {f : sl.view.ty.Contents (Elt F)} {W : S256x128.Idx → Elt F .f32} (h : Built sl f 2048 W) : sl.view.read (Elt F) f = W :=
  funext fun y => h y (by
    have h0 : (y 0).val < 256 := (y 0).isLt
    have h1 : (y 1).val < 128 := (y 1).isLt
    omega)

/-- The next piece stored. -/
theorem Built.step {f : sl.view.ty.Contents (Elt F)} {W : S256x128.Idx → Elt F .f32} {r j : ℕ} (hj : j < 8)
    (h : Built sl f (8 * r + j) W) (o' : Fin 2 → ℕ) (ho' : ∀ a, o' a + S1x16.size a ≤ S256x128.size a) (e : o' = ![r, 16 * j])
    (v : Vec F S1x16 .f32) (hv : ∀ x : S1x16.Idx, v x = W ((Rect.unit (s := S256x128) o' S1x16.size ho').emb x)) :
    Built sl (sl.view.writes (Elt F) f [⟨Rect.unit (s := S256x128) o' S1x16.size ho', v⟩]) (8 * r + j + 1) W := by
  intro y hy
  by_cases hm : y ∈ (Rect.unit (s := S256x128) o' S1x16.size ho').set
  · obtain ⟨x, rfl⟩ := (Rect.unit (s := S256x128) o' S1x16.size ho').exists_idx_of_mem hm
    exact (View.read_writes_cons_emb _ _ _ _ _ x).trans (hv x)
  · rw [View.read_writes_cons_miss _ _ _ _ _ hm, View.writes_nil]
    refine h y ?_
    by_contra hlt
    apply hm
    have h0 : (y 0).val < 256 := (y 0).isLt
    have h1 : (y 1).val < 128 := (y 1).isLt
    have hr : (y 0).val = r := by omega
    have hc : (y 1).val / 16 = j := by omega
    refine (Rect.unit (s := S256x128) o' S1x16.size ho').mem_set.mpr fun a => ?_
    match a with
    | 0 => exact ⟨0, by show 0 < 1; omega, by show (y 0).val = o' 0 + 1 * 0; rw [e]; simpa using hr⟩
    | 1 => exact ⟨(y 1).val % 16, by show (y 1).val % 16 < 16; omega, by show (y 1).val = o' 1 + 1 * ((y 1).val % 16); rw [e]; show _ = 16 * j + _; omega⟩

/-- The slot, its first `n` pieces holding `W`, as thread `c` holds it. -/
def Slot (c : Thread nD τ) (sl : Memref sig c.2.kind .vmem S256x128 .f32) (n : ℕ) (W : S256x128.Idx → Elt F .f32) : sProp (MM F) :=
  iprop(∃ f, ⌜Built sl f n W⌝ ∗ (sl.view.loc c ↦[sl.view.set]{fullShare} f))

end Slot

/-! ## The offsets a trip is given -/

/-- A loop's offsets at trip `t`, for the index words from `cb` on, are what they should be. -/
structure Offs.Good (g : Offs) (cb t : ℕ) : Prop where
  o5 : g.o5 = ![cb + 2 * t]
  chk0 : ∀ v : BitVec 32, v.toNat < 100 → g.chk0 v
  chk1 : ∀ v : BitVec 32, v.toNat < 100 → g.chk1 v
  src0 : ∀ (v : BitVec 32) (j : Fin 8), g.src0 v j = ![v.toNat, 16 * j.val]
  src1 : ∀ (v : BitVec 32) (j : Fin 8), g.src1 v j = ![v.toNat, 16 * j.val]
  dst0 : ∀ j : Fin 8, g.dst0 j = ![2 * t, 16 * j.val]
  dst1 : ∀ j : Fin 8, g.dst1 j = ![2 * t + 1, 16 * j.val]

/-! ## The steps -/

section Steps

variable {d : Dev nD} {i : Fin τ.nSC} {j : Fin τ.nSub}
variable (m5 : Memref sig .scVector .vmem S25600 .i32) (m6 : Memref sig .scVector .vmem S100x128 .f32) (sl : Memref sig .scVector .vmem S256x128 .f32)
variable (ix : Buf (Elt F) (m5.view.loc (V d i j))) (tb : Buf (Elt F) (m6.view.loc (V d i j)))

/-- One piece. -/
theorem wp_cell (W : S256x128.Idx → Elt F .f32) (o : Fin 2 → ℕ) (ho : ∀ a, o a + S1x16.size a ≤ S100x128.size a)
    (o' : Fin 2 → ℕ) (ho' : ∀ a, o' a + S1x16.size a ≤ S256x128.size a) (v : BitVec 32) (r k : ℕ) (hk : k < 8)
    (e : o = ![v.toNat, 16 * k]) (e' : o' = ![r, 16 * k]) (hv : v.toNat < 100)
    (hW : ∀ y : S256x128.Idx, (y 0).val = r → W y = lookup (m6.view.read (Elt F) tb) v (y 1)) {Q : PUnit → sProp (MM F)} :
    iprop((m6.view.loc (V d i j) ↦{fullShare} tb) ∗ Slot (V d i j) sl (8 * r + k) W)
      ⊢ iprop((iprop((m6.view.loc (V d i j) ↦{fullShare} tb) ∗ Slot (V d i j) sl (8 * r + k + 1) W) -∗ Q ⟨⟩)
          -∗ wp frame (wpE (defs₀ (F := F)) 𝒱₀ (V d i j) none) Set.univ (cell m6 sl o ho o' ho' i j) Q) := by
  unfold cell Slot
  simp only [Prog.lift, Prog.bind_op, Prog.bind_ret, Prog.pure_eq_ret]
  iintro ⟨Ht, %f, %hf, Hs⟩ HQ
  iapply (wp_load 𝒱₀ (V d i j) none Set.univ (m := m6) (Finset.subset_univ _)) $$ Ht
  iintro Ht
  iapply (wp_load 𝒱₀ (V d i j) none Set.univ (m := sl) (View.setOn_subset_set _ _)) $$ Hs
  iintro Hs
  iapply (wp_store_writes₀ 𝒱₀ (V d i j) none Set.univ (m := sl) (View.set_slice_subset _ _)) $$ Hs
  iintro Hs
  rw [wp_ret]; imodintro
  iapply HQ
  isplitl [Ht]; · iexact Ht
  iexists _
  isplitr
  rotate_left
  · iexact Hs
  ipureintro
  refine Built.step sl hk hf o' ho' e' _ fun x => ?_
  have hx0 : (x 0).val = 0 := by have : (x 0).val < 1 := (x 0).isLt; omega
  have hx1 : (x 1).val < 16 := (x 1).isLt
  rw [pay4_eq, View.readAt_apply]
  have hy0 : ((Rect.unit (s := S256x128) o' S1x16.size ho').emb x 0).val = r := by
    show o' 0 + 1 * (x 0).val = r
    rw [e', hx0]; rfl
  have hy1 : ((Rect.unit (s := S256x128) o' S1x16.size ho').emb x 1).val = 16 * k + (x 1).val := by
    show o' 1 + 1 * (x 1).val = _
    rw [e', Nat.one_mul]; rfl
  rw [hW _ hy0]
  unfold lookup
  congr 1
  funext a
  match a with
  | 0 =>
    refine Fin.ext ?_
    show o 0 + 1 * (x 0).val = min v.toNat 99
    rw [e, hx0]
    show v.toNat + 1 * 0 = _
    omega
  | 1 =>
    refine Fin.ext ?_
    show o 1 + 1 * (x 1).val = ((Rect.unit (s := S256x128) o' S1x16.size ho').emb x 1).val
    rw [hy1, e, Nat.one_mul]; rfl

/-- One row. -/
theorem wp_row (W : S256x128.Idx → Elt F .f32) (o : Fin 8 → Fin 2 → ℕ) (ho : ∀ j a, o j a + S1x16.size a ≤ S100x128.size a)
    (o' : Fin 8 → Fin 2 → ℕ) (ho' : ∀ j a, o' j a + S1x16.size a ≤ S256x128.size a) (v : BitVec 32) (r : ℕ)
    (e : ∀ k : Fin 8, o k = ![v.toNat, 16 * k.val]) (e' : ∀ k : Fin 8, o' k = ![r, 16 * k.val]) (hv : v.toNat < 100)
    (hW : ∀ y : S256x128.Idx, (y 0).val = r → W y = lookup (m6.view.read (Elt F) tb) v (y 1)) {Q : PUnit → sProp (MM F)} :
    iprop((m6.view.loc (V d i j) ↦{fullShare} tb) ∗ Slot (V d i j) sl (8 * r) W)
      ⊢ iprop((iprop((m6.view.loc (V d i j) ↦{fullShare} tb) ∗ Slot (V d i j) sl (8 * (r + 1)) W) -∗ Q ⟨⟩)
          -∗ wp frame (wpE (defs₀ (F := F)) 𝒱₀ (V d i j) none) Set.univ (row m6 sl o ho o' ho' i j) Q) := by
  unfold row
  simp only [wp_bind]
  have step := fun (k : Fin 8) (Q : PUnit → sProp (MM F)) =>
    wp_cell m6 sl tb W (o k) (ho k) (o' k) (ho' k) v r k.val k.isLt (e k) (e' k) hv hW (Q := Q)
  iintro H HQ
  iapply (step 0 _) $$ H
  iintro H
  iapply (step 1 _) $$ H
  iintro H
  iapply (step 2 _) $$ H
  iintro H
  iapply (step 3 _) $$ H
  iintro H
  iapply (step 4 _) $$ H
  iintro H
  iapply (step 5 _) $$ H
  iintro H
  iapply (step 6 _) $$ H
  iintro H
  iapply (step 7 _) $$ H
  iintro H
  iapply HQ
  iexact H

/-- One trip: two rows. -/
theorem wp_trip (g : Offs) (cb t : ℕ) (hcb : cb + 256 ≤ 25600) (ht : t < 128) (hg : g.Good cb t)
    (hix : ∀ n (h : n < 25600), (m5.view.read (Elt F) ix (slIx n h) : BitVec 32).toNat < 100) :
    iprop((m5.view.loc (V d i j) ↦{fullShare} ix) ∗ (m6.view.loc (V d i j) ↦{fullShare} tb)
        ∗ Slot (V d i j) sl (16 * t) (want (m6.view.read (Elt F) tb) (m5.view.read (Elt F) ix) cb hcb))
      ⊢ wp frame (wpE (defs₀ (F := F)) 𝒱₀ (V d i j) none) Set.univ (trip m5 m6 sl g i j)
          fun _ => iprop((m5.view.loc (V d i j) ↦{fullShare} ix) ∗ (m6.view.loc (V d i j) ↦{fullShare} tb)
            ∗ Slot (V d i j) sl (16 * (t + 1)) (want (m6.view.read (Elt F) tb) (m5.view.read (Elt F) ix) cb hcb)) := by
  have hread : ∀ (b : ℕ) (hb : b < 2) (x : S2.Idx), (x 0).val = b →
      m5.view.readAt (Elt F) (Rect.unit (s := S25600) g.o5 S2.size g.h5).toLoadRect ix x
        = m5.view.read (Elt F) ix (slIx (cb + (2 * t + b)) (by omega)) := by
    intro b hb x hx
    rw [View.readAt_apply]
    congr 1
    funext a
    obtain rfl : a = 0 := Subsingleton.elim _ _
    refine Fin.ext ?_
    show g.o5 0 + 1 * (x 0).val = cb + (2 * t + b)
    rw [hg.o5, hx]
    show cb + 2 * t + 1 * b = _
    omega
  have hw0 := (word0_eq (F := F) (m5.view.readAt (Elt F) (Rect.unit (s := S25600) g.o5 S2.size g.h5).toLoadRect ix)).trans (hread 0 (by omega) _ rfl)
  have hw1 := (word1_eq (F := F) (m5.view.readAt (Elt F) (Rect.unit (s := S25600) g.o5 S2.size g.h5).toLoadRect ix)).trans (hread 1 (by omega) _ rfl)
  have hl0 := hw0 ▸ hix _ _
  have hl1 := hw1 ▸ hix _ _
  unfold trip
  simp only [Prog.lift, Prog.bind_op, Prog.bind_ret, Prog.pure_eq_ret]
  iintro ⟨Hi, Ht, Hs⟩
  iapply (wp_load 𝒱₀ (V d i j) none Set.univ (m := m5) (Finset.subset_univ _)) $$ Hi
  iintro Hi
  rw [wp_assume_of _ _ _ _ (hg.chk0 _ hl0), wp_bind]
  rw [show 16 * t = 8 * (2 * t) by omega, show 16 * (t + 1) = 8 * (2 * t + 1 + 1) by omega]
  iapply (wp_row m6 sl tb (want (m6.view.read (Elt F) tb) (m5.view.read (Elt F) ix) cb hcb) _ _ _ _ _ (2 * t) (hg.src0 _) hg.dst0 hl0 (fun y hy => by
    rw [hw0]; exact want_row _ _ _ _ _ _ _ (by rw [hy]; omega))) $$ [Ht Hs]
  · isplitl [Ht] <;> iassumption
  iintro ⟨Ht, Hs⟩
  rw [wp_assume_of _ _ _ _ (hg.chk1 _ hl1), wp_bind]
  iapply (wp_row m6 sl tb (want (m6.view.read (Elt F) tb) (m5.view.read (Elt F) ix) cb hcb) _ _ _ _ _ (2 * t + 1) (hg.src1 _) hg.dst1 hl1 (fun y hy => by
    rw [hw1]; exact want_row _ _ _ _ _ _ _ (by rw [hy]))) $$ [Ht Hs]
  · isplitl [Ht] <;> iassumption
  iintro ⟨Ht, Hs⟩
  rw [wp_ret]; imodintro
  isplitl [Hi]; · iexact Hi
  isplitl [Ht] <;> iassumption

/-- A whole loop of 128 trips: the slot at any contents filled with what the 256 index words from `cb` on name. -/
theorem wp_build (loop : Scf.Loop 32) (hok : loop.OK) (htr : loop.trips = 128) (g : Fin loop.trips → Offs) (cb : ℕ) (hcb : cb + 256 ≤ 25600)
    (hg : ∀ t, (g t).Good cb t.val) (hix : ∀ n (h : n < 25600), (m5.view.read (Elt F) ix (slIx n h) : BitVec 32).toNat < 100)
    {Q : Unit → sProp (MM F)} :
    iprop((m5.view.loc (V d i j) ↦{fullShare} ix) ∗ (m6.view.loc (V d i j) ↦{fullShare} tb) ∗ ∃ f, sl.view.loc (V d i j) ↦[sl.view.set]{fullShare} f)
      ⊢ iprop((iprop((m5.view.loc (V d i j) ↦{fullShare} ix) ∗ (m6.view.loc (V d i j) ↦{fullShare} tb)
            ∗ Slot (V d i j) sl 2048 (want (m6.view.read (Elt F) tb) (m5.view.read (Elt F) ix) cb hcb)) -∗ Q ⟨⟩)
          -∗ wp frame (wpE (defs₀ (F := F)) 𝒱₀ (V d i j) none) Set.univ (Scf.Loop.for loop hok ⟨⟩ fun t _ => trip m5 m6 sl (g t) i j) Q) := by
  iintro ⟨Hi, Ht, %f, Hs⟩ HQ
  iapply (Scf.wp_for frame (wpE (defs₀ (F := F)) 𝒱₀ (V d i j) none) Set.univ loop.lb loop.ub loop.st hok ⟨⟩ (fun t _ => trip m5 m6 sl (g t) i j)
    (fun n _ => iprop((m5.view.loc (V d i j) ↦{fullShare} ix) ∗ (m6.view.loc (V d i j) ↦{fullShare} tb)
      ∗ Slot (V d i j) sl (16 * n) (want (m6.view.read (Elt F) tb) (m5.view.read (Elt F) ix) cb hcb)))
    (fun t _ => wp_trip m5 m6 sl ix tb (g t) cb t.val hcb (htr ▸ t.isLt) (hg t) hix))
  isplitl [Hi Ht Hs]
  · isplitl [Hi]; · iexact Hi
    isplitl [Ht]; · iexact Ht
    unfold Slot
    iexists f
    isplitr
    · ipureintro; exact Built.zero sl _ _
    · iexact Hs
  · iintro %_ H
    iapply HQ
    rw [show Scf.trips loop.lb loop.ub loop.st = 128 from htr]
    iexact H

end Steps

end Cert.Proof

end
-- ==== Proof.Good.lean ====
/-
  The four build loops' offsets, each in the form `Offs.Good` asks (the generated closed forms of the printed index
  arithmetic), and the copy offsets of the row blocks.
-/
module

public import proofs.«01_k».proof.Proof.Build

@[expose] public section

noncomputable section

namespace Cert.Proof

open Cert.KernelIdeal Cert.KernelIdeal.Gen
open Idealize.ShloMosaic

/-- A check of eight table rectangles at row `v` passes when the row is in the table. -/
theorem inb_of_lt (v : BitVec 32) (hv : v.toNat < 100) (k : ℕ) (hk : k + 16 ≤ 128) (a : Fin 2) :
    (![v.toNat, k] : Fin 2 → ℕ) a + S1x16.size a ≤ S100x128.size a := by
  match a with
  | 0 => show v.toNat + 1 ≤ 100; omega
  | 1 => exact hk

theorem offs1_good (t : Fin k0_t1_loop.trips) : (offs1 t).Good 0 t.val where
  o5 := (k0_off2_eq t).trans (by congr 1; simp)
  chk0 v h := ⟨inb_of_lt v h 0 (by omega), inb_of_lt v h 16 (by omega), inb_of_lt v h 32 (by omega), inb_of_lt v h 48 (by omega),
    inb_of_lt v h 64 (by omega), inb_of_lt v h 80 (by omega), inb_of_lt v h 96 (by omega), inb_of_lt v h 112 (by omega)⟩
  chk1 v h := ⟨inb_of_lt v h 0 (by omega), inb_of_lt v h 16 (by omega), inb_of_lt v h 32 (by omega), inb_of_lt v h 48 (by omega),
    inb_of_lt v h 64 (by omega), inb_of_lt v h 80 (by omega), inb_of_lt v h 96 (by omega), inb_of_lt v h 112 (by omega)⟩
  src0 v j := by fin_cases j <;> rfl
  src1 v j := by fin_cases j <;> rfl
  dst0 := fun
    | 0 => k0_off4_eq t | 1 => k0_off6_eq t | 2 => k0_off8_eq t | 3 => k0_off10_eq t
    | 4 => k0_off12_eq t | 5 => k0_off14_eq t | 6 => k0_off16_eq t | 7 => k0_off18_eq t
  dst1 := fun
    | 0 => k0_off20_eq t | 1 => k0_off22_eq t | 2 => k0_off24_eq t | 3 => k0_off26_eq t
    | 4 => k0_off28_eq t | 5 => k0_off30_eq t | 6 => k0_off32_eq t | 7 => k0_off34_eq t

theorem offs2_good (t : Fin k0_t2_loop.trips) : (offs2 t).Good 256 t.val where
  o5 := (k0_off36_eq t).trans (by congr 1; omega)
  chk0 v h := ⟨inb_of_lt v h 0 (by omega), inb_of_lt v h 16 (by omega), inb_of_lt v h 32 (by omega), inb_of_lt v h 48 (by omega),
    inb_of_lt v h 64 (by omega), inb_of_lt v h 80 (by omega), inb_of_lt v h 96 (by omega), inb_of_lt v h 112 (by omega)⟩
  chk1 v h := ⟨inb_of_lt v h 0 (by omega), inb_of_lt v h 16 (by omega), inb_of_lt v h 32 (by omega), inb_of_lt v h 48 (by omega),
    inb_of_lt v h 64 (by omega), inb_of_lt v h 80 (by omega), inb_of_lt v h 96 (by omega), inb_of_lt v h 112 (by omega)⟩
  src0 v j := by fin_cases j <;> rfl
  src1 v j := by fin_cases j <;> rfl
  dst0 := fun
    | 0 => k0_off38_eq t | 1 => k0_off40_eq t | 2 => k0_off42_eq t | 3 => k0_off44_eq t
    | 4 => k0_off46_eq t | 5 => k0_off48_eq t | 6 => k0_off50_eq t | 7 => k0_off52_eq t
  dst1 := fun
    | 0 => k0_off54_eq t | 1 => k0_off56_eq t | 2 => k0_off58_eq t | 3 => k0_off60_eq t
    | 4 => k0_off62_eq t | 5 => k0_off64_eq t | 6 => k0_off66_eq t | 7 => k0_off68_eq t

theorem offs4_good (u : Fin k0_t3_loop.trips) (t : Fin k0_t4_loop.trips) : (offs4 u t).Good (512 * u.val + 512) t.val where
  o5 := (k0_off70_eq u t).trans (by congr 1; omega)
  chk0 v h := ⟨inb_of_lt v h 0 (by omega), inb_of_lt v h 16 (by omega), inb_of_lt v h 32 (by omega), inb_of_lt v h 48 (by omega),
    inb_of_lt v h 64 (by omega), inb_of_lt v h 80 (by omega), inb_of_lt v h 96 (by omega), inb_of_lt v h 112 (by omega)⟩
  chk1 v h := ⟨inb_of_lt v h 0 (by omega), inb_of_lt v h 16 (by omega), inb_of_lt v h 32 (by omega), inb_of_lt v h 48 (by omega),
    inb_of_lt v h 64 (by omega), inb_of_lt v h 80 (by omega), inb_of_lt v h 96 (by omega), inb_of_lt v h 112 (by omega)⟩
  src0 v j := by fin_cases j <;> rfl
  src1 v j := by fin_cases j <;> rfl
  dst0 := fun
    | 0 => k0_off72_eq t | 1 => k0_off74_eq t | 2 => k0_off76_eq t | 3 => k0_off78_eq t
    | 4 => k0_off80_eq t | 5 => k0_off82_eq t | 6 => k0_off84_eq t | 7 => k0_off86_eq t
  dst1 := fun
    | 0 => k0_off88_eq t | 1 => k0_off90_eq t | 2 => k0_off92_eq t | 3 => k0_off94_eq t
    | 4 => k0_off96_eq t | 5 => k0_off98_eq t | 6 => k0_off100_eq t | 7 => k0_off102_eq t

theorem offs5_good (u : Fin k0_t3_loop.trips) (t : Fin k0_t5_loop.trips) : (offs5 u t).Good (512 * u.val + 768) t.val where
  o5 := (k0_off104_eq u t).trans (by congr 1; omega)
  chk0 v h := ⟨inb_of_lt v h 0 (by omega), inb_of_lt v h 16 (by omega), inb_of_lt v h 32 (by omega), inb_of_lt v h 48 (by omega),
    inb_of_lt v h 64 (by omega), inb_of_lt v h 80 (by omega), inb_of_lt v h 96 (by omega), inb_of_lt v h 112 (by omega)⟩
  chk1 v h := ⟨inb_of_lt v h 0 (by omega), inb_of_lt v h 16 (by omega), inb_of_lt v h 32 (by omega), inb_of_lt v h 48 (by omega),
    inb_of_lt v h 64 (by omega), inb_of_lt v h 80 (by omega), inb_of_lt v h 96 (by omega), inb_of_lt v h 112 (by omega)⟩
  src0 v j := by fin_cases j <;> rfl
  src1 v j := by fin_cases j <;> rfl
  dst0 := fun
    | 0 => k0_off106_eq t | 1 => k0_off108_eq t | 2 => k0_off110_eq t | 3 => k0_off112_eq t
    | 4 => k0_off114_eq t | 5 => k0_off116_eq t | 6 => k0_off118_eq t | 7 => k0_off120_eq t
  dst1 := fun
    | 0 => k0_off122_eq t | 1 => k0_off124_eq t | 2 => k0_off126_eq t | 3 => k0_off128_eq t
    | 4 => k0_off130_eq t | 5 => k0_off132_eq t | 6 => k0_off134_eq t | 7 => k0_off136_eq t

/-! ## The copies' offsets -/

/-- The first row of tile `L`'s share of the rows. -/
def base (i : grid0.Coords) : ℕ := 51200 * (i 1).val + 25600 * (i 0).val

theorem base_le (i : grid0.Coords) : base i + 25600 ≤ 819200 := by
  have h1 : (i 1).val < 16 := (i 1).isLt
  have h0 : (i 0).val < 2 := (i 0).isLt
  unfold base; omega

set_option maxRecDepth 65536 in
theorem off35_eq : ∀ (i : grid0.Coords) (r : Fin 4),
    k0_off35 i (k0_off35_at r) = ![base i + 256 * (![0, 1, 98, 99] : Fin 4 → ℕ) r, 0] := by unfold base; decide +kernel

/-- The block a step waits for. -/
theorem off69_eq (i : grid0.Coords) (u : Fin k0_t3_loop.trips) (r : Fin 2) :
    k0_off69 i u (BitVec.ofNat 32 r.val) = ![base i + 512 * u.val + 256 * r.val, 0] := by
  have r_r : r.val < 2 := r.isLt
  have hr : Affine.IsInt (BitVec.ofNat 32 r.val) (r.val : Int) := Affine.ofNat _ (by omega)
  have r1 : (i 1).val < 16 := (i 1).isLt
  have h1 : Affine.IsInt (BitVec.ofNat 32 (i 1).val) ((i 1).val : Int) := Affine.ofNat _ (by omega)
  have r0 : (i 0).val < 2 := (i 0).isLt
  have h0 : Affine.IsInt (BitVec.ofNat 32 (i 0).val) ((i 0).val : Int) := Affine.ofNat _ (by omega)
  have k0 : Affine.IsInt 0#32 0 := Affine.ofNat _ (by omega)
  have k1 : Affine.IsInt 1#32 1 := Affine.ofNat _ (by omega)
  have k2 : Affine.IsInt 2#32 2 := Affine.ofNat _ (by omega)
  have k256 : Affine.IsInt 256#32 256 := Affine.ofNat _ (by omega)
  have k25600 : Affine.IsInt 25600#32 25600 := Affine.ofNat _ (by omega)
  have hv0 : Affine.IsInt _ (2 * ((i 1).val : Int)) := Affine.muli h1 k2 (by omega)
  have hv1 : Affine.IsInt _ (2 * ((i 1).val : Int) + ((i 0).val : Int)) := Affine.addi hv0 h0 (by omega)
  have hv2 : Affine.IsInt _ (51200 * ((i 1).val : Int) + 25600 * ((i 0).val : Int)) := Affine.muli hv1 k25600 (by omega)
  have ru : u.val < 49 := Nat.lt_of_lt_of_le u.isLt k0_t3_abs.2.1
  have hu : Affine.IsInt _ (u.val : Int) := Affine.iv k0 k1 u.val (by omega)
  have hu1 : Affine.IsInt _ (u.val : Int) := Affine.muli hu k1 (by omega)
  have hu2 : Affine.IsInt _ (u.val : Int) := Affine.addi k0 hu1 (by omega)
  have hu3 : Affine.IsInt _ (2 * (u.val : Int)) := Affine.muli k2 hu2 (by omega)
  have hu4 : Affine.IsInt _ (2 * (u.val : Int) + 2) := Affine.addi hu3 k2 (by omega)
  have hu5 : Affine.IsInt _ (2 * (u.val : Int) + (r.val : Int) + 2) := Affine.addi hu4 hr (by omega)
  have hu6 : Affine.IsInt _ (2 * (u.val : Int) + (r.val : Int)) := Affine.subi hu5 k2 (by omega)
  have hu7 : Affine.IsInt _ (512 * (u.val : Int) + 256 * (r.val : Int)) := Affine.muli hu6 k256 (by omega)
  have hu8 : Affine.IsInt _ (51200 * ((i 1).val : Int) + 25600 * ((i 0).val : Int) + 512 * (u.val : Int) + 256 * (r.val : Int)) := Affine.addi hv2 hu7 (by omega)
  exact Affine.vec_cons hu8 (by unfold base; omega) <| Affine.vec_cons k0 (by omega) <| Affine.vec_nil

/-- The block a step sends. -/
theorem off103_eq (i : grid0.Coords) (u : Fin k0_t3_loop.trips) (r : Fin 2) :
    k0_off103 i u (BitVec.ofNat 32 r.val) = ![base i + 512 * u.val + 512 + 256 * r.val, 0] := by
  have r_r : r.val < 2 := r.isLt
  have hr : Affine.IsInt (BitVec.ofNat 32 r.val) (r.val : Int) := Affine.ofNat _ (by omega)
  have r1 : (i 1).val < 16 := (i 1).isLt
  have h1 : Affine.IsInt (BitVec.ofNat 32 (i 1).val) ((i 1).val : Int) := Affine.ofNat _ (by omega)
  have r0 : (i 0).val < 2 := (i 0).isLt
  have h0 : Affine.IsInt (BitVec.ofNat 32 (i 0).val) ((i 0).val : Int) := Affine.ofNat _ (by omega)
  have k0 : Affine.IsInt 0#32 0 := Affine.ofNat _ (by omega)
  have k1 : Affine.IsInt 1#32 1 := Affine.ofNat _ (by omega)
  have k2 : Affine.IsInt 2#32 2 := Affine.ofNat _ (by omega)
  have k256 : Affine.IsInt 256#32 256 := Affine.ofNat _ (by omega)
  have k25600 : Affine.IsInt 25600#32 25600 := Affine.ofNat _ (by omega)
  have hv0 : Affine.IsInt _ (2 * ((i 1).val : Int)) := Affine.muli h1 k2 (by omega)
  have hv1 : Affine.IsInt _ (2 * ((i 1).val : Int) + ((i 0).val : Int)) := Affine.addi hv0 h0 (by omega)
  have hv2 : Affine.IsInt _ (51200 * ((i 1).val : Int) + 25600 * ((i 0).val : Int)) := Affine.muli hv1 k25600 (by omega)
  have ru : u.val < 49 := Nat.lt_of_lt_of_le u.isLt k0_t3_abs.2.1
  have hu : Affine.IsInt _ (u.val : Int) := Affine.iv k0 k1 u.val (by omega)
  have hu1 : Affine.IsInt _ (u.val : Int) := Affine.muli hu k1 (by omega)
  have hu2 : Affine.IsInt _ (u.val : Int) := Affine.addi k0 hu1 (by omega)
  have hu3 : Affine.IsInt _ (2 * (u.val : Int)) := Affine.muli k2 hu2 (by omega)
  have hu4 : Affine.IsInt _ (2 * (u.val : Int) + 2) := Affine.addi hu3 k2 (by omega)
  have hu5 : Affine.IsInt _ (2 * (u.val : Int) + (r.val : Int) + 2) := Affine.addi hu4 hr (by omega)
  have hu7 : Affine.IsInt _ (512 * (u.val : Int) + 256 * (r.val : Int) + 512) := Affine.muli hu5 k256 (by omega)
  have hu8 : Affine.IsInt _ (51200 * ((i 1).val : Int) + 25600 * ((i 0).val : Int) + 512 * (u.val : Int) + 256 * (r.val : Int) + 512) := Affine.addi hv2 hu7 (by omega)
  exact Affine.vec_cons hu8 (by unfold base; omega) <| Affine.vec_cons k0 (by omega) <| Affine.vec_nil

end Cert.Proof

end
-- ==== Proof.Blocks.lean ====
/-
  The arrays in shared memory, their regions (whole rows of the result, words of the flat indices), the function the
  kernel computes on them, and the two halves of a block's copy: sent from a slot (`wp_send`) and landed (`wp_landed`).
-/
module

public import proofs.«01_k».proof.Proof.Good

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The arrays -/

abbrev iV : Memref sig .scVector .hbm S819200 .i32 := Memref.whole main_v0_scv
abbrev tV : Memref sig .scVector .hbm S100x128 .f32 := Memref.whole main_arg1_scv
abbrev oV : Memref sig .scVector .hbm S819200x128 .f32 := Memref.whole main_v1_scv
abbrev sI : Memref sig .scVector .vmem S25600 .i32 := Memref.whole cc0_scratch0
abbrev sT : Memref sig .scVector .vmem S100x128 .f32 := Memref.whole cc0_scratch1
abbrev sR : Memref sig .scVector .vmem S2x256x128 .f32 := Memref.whole cc0_scratch2

abbrev iLoc (d : Dev nD) : Loc nD τ sig := (SparseCore.T d : Thread nD τ).loc main_v0
abbrev tLoc (d : Dev nD) : Loc nD τ sig := (SparseCore.T d : Thread nD τ).loc main_arg1
abbrev oLoc (d : Dev nD) : Loc nD τ sig := (SparseCore.T d : Thread nD τ).loc main_v1

/-! ## Their regions -/

/-- Words `a ≤ · < a + n` of the flat indices. -/
def wordsOf (a n : ℕ) : Finset S819200.Idx := Finset.univ.filter fun y => a ≤ (y 0).val ∧ (y 0).val < a + n
/-- Rows `a ≤ · < a + n` of the result. -/
def rowsOf (a n : ℕ) : Finset S819200x128.Idx := Finset.univ.filter fun y => a ≤ (y 0).val ∧ (y 0).val < a + n

theorem mem_wordsOf {a n : ℕ} {y : S819200.Idx} : y ∈ wordsOf a n ↔ a ≤ (y 0).val ∧ (y 0).val < a + n := by simp [wordsOf]
theorem mem_rowsOf {a n : ℕ} {y : S819200x128.Idx} : y ∈ rowsOf a n ↔ a ≤ (y 0).val ∧ (y 0).val < a + n := by simp [rowsOf]

theorem rowsOf_add (a n k : ℕ) : rowsOf a (n + k) = rowsOf a n ∪ rowsOf (a + n) k := by
  ext y; simp only [Finset.mem_union, mem_rowsOf]; omega

theorem rowsOf_disjoint {a n b k : ℕ} (h : a + n ≤ b) : Disjoint (rowsOf a n) (rowsOf b k) :=
  Finset.disjoint_left.mpr fun y h1 h2 => by rw [mem_rowsOf] at h1 h2; omega

/-- Rows held, cut in two. -/
theorem rows_split (d : Dev nD) (f : Buf (Elt F) (oLoc d)) (a n k : ℕ) :
    (oLoc d ↦[rowsOf a (n + k)]{fullShare} f : sProp (MM F)) = iprop((oLoc d ↦[rowsOf a n]{fullShare} f) ∗ oLoc d ↦[rowsOf (a + n) k]{fullShare} f) := by
  have h : (oLoc d ↦[rowsOf a n ∪ rowsOf (a + n) k]{fullShare} f : sProp (MM F)) ⊣⊢ iprop((oLoc d ↦[rowsOf a n]{fullShare} f) ∗ oLoc d ↦[rowsOf (a + n) k]{fullShare} f) :=
    pointsTo_union (rowsOf_disjoint (le_refl _))
  rw [rowsOf_add]
  exact BI.equiv_iff.mp ⟨h.1, h.2⟩

/-! ## What the kernel computes -/

/-- Position `n` of the flat indices. -/
def flatIx (n : ℕ) (h : n < 819200) : S819200.Idx := fun | 0 => ⟨n, h⟩

/-- Row `r` of the result: the table's row the `r`-th index names. -/
def gatherRows {α : Type} (t : S100x128.Idx → α) (ix : S819200.Idx → BitVec 32) (y : S819200x128.Idx) : α :=
  lookup t (ix (flatIx (y 0).val (y 0).isLt)) (y 1)

/-! ## A block of rows, as the copies name it -/

/-- The 256 rows at offset `o`. -/
abbrev chunk (o : Fin 2 → ℕ) (h : ∀ a, o a + S256x128.size a ≤ S819200x128.size a) : Memref sig .scVector .hbm S256x128 .f32 :=
  oV.slice (Rect.unit (s := S819200x128) o S256x128.size h) (fun _ => rfl)

theorem chunk_set (o : Fin 2 → ℕ) (h : ∀ a, o a + S256x128.size a ≤ S819200x128.size a) (a : ℕ) (e : o = ![a, 0]) :
    (chunk o h).view.set = rowsOf a 256 := by
  refine (View.set_slice_whole (main_v1_scv : Ref sig .scVector) (Rect.unit (s := S819200x128) o S256x128.size h)).trans ?_
  ext y
  rw [Rect.mem_set_unit, mem_rowsOf]
  subst e
  constructor
  · intro hy; exact hy 0
  · intro hy b
    match b with
    | 0 => exact hy
    | 1 => exact ⟨Nat.zero_le _, by show (y 1).val < 0 + 128; have : (y 1).val < 128 := (y 1).isLt; omega⟩

/-- What a copy on a block credits. -/
abbrev NO : ℕ := (main_v1_scv : Ref sig .scVector).dmaCredit S256x128 .f32

/-- What the thread owes, its waits so far being its own. -/
def Owes (d : Dev nD) (L : grid0.Coords) (O : CellTallies nD τ sig (HIx 1)) (W : Waits sig (HIx 1)) : sProp (MM F) :=
  iprop(∃ W', ⌜∀ p ∈ W', p ∈ W ∨ p.2 = none⌝ ∗ owes (thr d L) O W')

theorem owes_insert {W W' : Waits sig (HIx 1)} (h : ∀ p ∈ W', p ∈ W ∨ p.2 = none) {sm : SemLoc sig} :
    ∀ p ∈ insert (sm, none) W', p ∈ W ∨ p.2 = none := by
  intro p hp
  rcases Finset.mem_insert.mp hp with rfl | hp
  · exact .inr rfl
  · exact h p hp

section Steps

variable (d : Dev nD) (L : grid0.Coords) (sl : Memref sig .scVector .vmem S256x128 .f32) (s : DmaSem sig)

/-- The copy of a slot to rows `a … a + 255` in flight: it will bring the rows at `G` and the slot at some contents. -/
def Sent (a : ℕ) (G : S819200x128.Idx → Elt F .f32) : sProp (MM F) :=
  Transfers.Flight EC (thr d L) (.dma s) none NO
    iprop((oLoc d ↦[rowsOf a 256]{fullShare} G) ∗ ∃ f, sl.view.loc (thr d L) ↦[sl.view.set]{fullShare} f)

/-- What landed on a block is the rows' values, the slot having held them. -/
theorem chunk_lands (o : Fin 2 → ℕ) (h : ∀ a, o a + S256x128.size a ≤ S819200x128.size a) (a : ℕ) (e : o = ![a, 0])
    (G : S819200x128.Idx → Elt F .f32) (W : S256x128.Idx → Elt F .f32)
    (hW : ∀ (x : S256x128.Idx) (y : S819200x128.Idx), (y 0).val = a + (x 0).val → y 1 = x 1 → W x = G y)
    (f0 : Buf (Elt F) (oLoc d)) :
    ∀ y ∈ rowsOf a 256, (chunk o h).view.write (Elt F) f0 W Finset.univ y = G y := by
  intro y hy
  rw [← chunk_set o h a e] at hy
  obtain ⟨x, -, rfl⟩ := Finset.mem_map.mp hy
  refine (View.write_emb_of_mem _ _ (Finset.mem_univ x)).trans ?_
  refine (hW x _ ?_ ?_)
  · show o 0 + 1 * (x 0).val = _
    rw [e, Nat.one_mul]; rfl
  · refine Fin.ext ?_
    show o 1 + 1 * (x 1).val = _
    rw [e, Nat.one_mul]; exact Nat.zero_add _

theorem chunk_pts (o : Fin 2 → ℕ) (h : ∀ a, o a + S256x128.size a ≤ S819200x128.size a) (a : ℕ) (e : o = ![a, 0])
    (G : S819200x128.Idx → Elt F .f32) (W : S256x128.Idx → Elt F .f32)
    (hW : ∀ (x : S256x128.Idx) (y : S819200x128.Idx), (y 0).val = a + (x 0).val → y 1 = x 1 → W x = G y)
    (f0 : Buf (Elt F) (oLoc d)) :
    ((chunk o h).view.loc (thr d L) ↦[(chunk o h).view.set]{fullShare} (chunk o h).view.write (Elt F) f0 W Finset.univ : sProp (MM F))
      = (oLoc d ↦[rowsOf a 256]{fullShare} G) := by
  rw [chunk_set o h a e]
  exact pointsTo_congr (ℓ := oLoc d) (chunk_lands d o h a e G W hW f0)

/-- A slot that holds a block's rows is sent there. -/
theorem wp_send (o : Fin 2 → ℕ) (h : ∀ a, o a + S256x128.size a ≤ S819200x128.size a) (a : ℕ) (e : o = ![a, 0])
    (G : S819200x128.Idx → Elt F .f32) (W : S256x128.Idx → Elt F .f32)
    (hW : ∀ (x : S256x128.Idx) (y : S819200x128.Idx), (y 0).val = a + (x 0).val → y 1 = x 1 → W x = G y)
    (f0 : Buf (Elt F) (oLoc d)) {hsrc : sl.view.WordExact} {hdst : (chunk o h).view.WordExact}
    {hsem : DmaTarget.Typed (nD := nD) (p := (thr d L).2) .vmem (.dma s) (.here (chunk o h))}
    {α : Type} {k : PUnit → Prog (TpuEff nD τ sig (Elt F) Λ₀ (thr d L).2) α} {Q : α → sProp (MM F)} :
    iprop(Slot (thr d L) sl 2048 W ∗ (oLoc d ↦[rowsOf a 256]{fullShare} f0) ∗ semVal (thr d L, .dma s) 0)
      ⊢ iprop((Sent d L sl s a G -∗ wp frame (wpE (defs₀ (F := F)) 𝒱₀ (thr d L) none) Set.univ (k ⟨⟩) Q)
          -∗ wp frame (wpE (defs₀ (F := F)) 𝒱₀ (thr d L) none) Set.univ
              (.op (TpuEff.enqueueDma sl (.here (chunk o h)) (.dma s) hsrc hdst hsem) k) Q) := by
  unfold Slot Sent
  iintro ⟨⟨%f, %hf, Hs⟩, Ho, Hv⟩ Hk
  ihave Ho' := (Entails.of_eq (show (oLoc d ↦[rowsOf a 256]{fullShare} f0 : sProp (MM F))
    = ((chunk o h).view.loc (thr d L) ↦[(chunk o h).view.set]{fullShare} f0) by rw [chunk_set o h a e])) $$ Ho
  iapply (Transfers.wp_dmaLocal EC 𝒱₀ (thr d L) none none NO rfl (View.dmaCredit_pos (chunk o h).view (show 0 < S256x128.numel by decide)) (Finset.Subset.refl _)) $$ [Hs Ho' Hv]
  · isplitl [Hs]; · iexact Hs
    isplitl [Ho'] <;> iassumption
  iintro Hf
  iapply Hk
  iapply (Transfers.Flight_mono EC (thr d L) ?_) $$ Hf
  iintro ⟨Ho, Hs⟩
  isplitr [Hs]
  · iapply (Entails.of_eq (chunk_pts d L o h a e G W hW f0))
    rw [← Built.full sl hf]
    iexact Ho
  · iexists f; iexact Hs

/-- The wait for a sent block. -/
theorem wp_landed (o : Fin 2 → ℕ) (h : ∀ a, o a + S256x128.size a ≤ S819200x128.size a) (a : ℕ)
    (G : S819200x128.Idx → Elt F .f32) {hsrc : sl.view.WordExact} {hdst : (chunk o h).view.WordExact}
    (O : CellTallies nD τ sig (HIx 1)) (W : Waits sig (HIx 1))
    {α : Type} {k : PUnit → Prog (TpuEff nD τ sig (Elt F) Λ₀ (thr d L).2) α} {Q : α → sProp (MM F)} :
    iprop(Transfers.MayWaits (thr d L) none O ∗ Sent d L sl s a G ∗ Owes d L O W)
      ⊢ iprop((iprop((oLoc d ↦[rowsOf a 256]{fullShare} G) ∗ (∃ f, sl.view.loc (thr d L) ↦[sl.view.set]{fullShare} f)
              ∗ semVal (thr d L, .dma s) 0 ∗ Owes d L O W)
            -∗ wp frame (wpE (defs₀ (F := F)) 𝒱₀ (thr d L) none) Set.univ (k ⟨⟩) Q)
          -∗ wp frame (wpE (defs₀ (F := F)) 𝒱₀ (thr d L) none) Set.univ (.op (.waitDma2 s sl (chunk o h) hsrc hdst) k) Q) := by
  unfold Sent Owes
  iintro ⟨#Hmw, Hf, %W', %hW', HO⟩ Hk
  iapply (Transfers.wp_waitLocalO EC 𝒱₀ (thr d L) none none (N := NO) rfl) $$ [Hf HO]
  · isplitl [Hf]; · iexact Hf
    isplitl [HO]; · iexact HO
    iapply (Transfers.MayWaits.elim (SemLoc.dma s)); iexact Hmw
  iintro ⟨⟨Ho, Hs⟩, Hv, HO⟩
  iapply Hk
  isplitl [Ho]; · iexact Ho
  isplitl [Hs]; · iexact Hs
  isplitl [Hv]; · iexact Hv
  iexists _
  isplitr
  rotate_left
  · iexact HO
  ipureintro
  exact owes_insert hW'

end Steps

end Cert.Proof

end
-- ==== Proof.Tile.lean ====
/-
  One tile's task: the table and the tile's indices fetched, the first two blocks built and sent, then forty-nine rounds
  of "wait for a slot, build the next block in it, send it" on the two slots, and the last two waits.
-/
module

public import proofs.«01_k».proof.Proof.Blocks

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

section Half

variable (d : Dev nD) (L : grid0.Coords)
variable (ix : Buf (Elt F) (sI.view.loc (thr d L))) (tb : Buf (Elt F) (sT.view.loc (thr d L)))
variable (I : S819200.Idx → BitVec 32) (f0 : Buf (Elt F) (oLoc d))
variable (O : CellTallies nD τ sig (HIx 1)) (W : Waits sig (HIx 1))

/-- The rows of the result, from the table as the tile holds it. -/
abbrev GG : S819200x128.Idx → Elt F .f32 := gatherRows (sT.view.read (Elt F) tb) I

/-- The tile's indices are its slice of the flat ones. -/
def Sliced : Prop := ∀ n (h : n < 25600), (sI.view.read (Elt F) ix (slIx n h) : BitVec 32) = I (flatIx (base L + n) (by have := base_le L; omega))

theorem want_eq (hs : Sliced d L ix I) (cb : ℕ) (hcb : cb + 256 ≤ 25600) (x : S256x128.Idx) (y : S819200x128.Idx)
    (h0 : (y 0).val = base L + cb + (x 0).val) (h1 : y 1 = x 1) :
    want (sT.view.read (Elt F) tb) (sI.view.read (Elt F) ix) cb hcb x = GG d L tb I y := by
  unfold want GG gatherRows
  rw [hs, h1]
  congr 2
  unfold flatIx
  funext a
  obtain rfl : a = 0 := Subsingleton.elim _ _
  exact Fin.ext (by show base L + (cb + (x 0).val) = (y 0).val; omega)

/-- Between two half rounds: `n` rows at their values, the two blocks after them in flight, the rest untouched. -/
def St (sl sl' : Memref sig .scVector .vmem S256x128 .f32) (s s' : DmaSem sig) (n : ℕ) : sProp (MM F) :=
  iprop((sI.view.loc (thr d L) ↦{fullShare} ix) ∗ (sT.view.loc (thr d L) ↦{fullShare} tb)
    ∗ (oLoc d ↦[rowsOf (base L) n]{fullShare} GG d L tb I) ∗ (oLoc d ↦[rowsOf (base L + (n + 512)) (25600 - (n + 512))]{fullShare} f0)
    ∗ Sent d L sl s (base L + n) (GG d L tb I) ∗ Sent d L sl' s' (base L + (n + 256)) (GG d L tb I) ∗ Owes d L O W)

/-- Half a round: the older block waited for, its slot built anew and sent. -/
theorem wp_half (sl sl' : Memref sig .scVector .vmem S256x128 .f32) (s s' : DmaSem sig) (n : ℕ) (hn : n + 512 + 256 ≤ 25600)
    (o o' : Fin 2 → ℕ) (h : ∀ a, o a + S256x128.size a ≤ S819200x128.size a) (h' : ∀ a, o' a + S256x128.size a ≤ S819200x128.size a)
    (e' : o' = ![base L + (n + 512), 0])
    (hs : Sliced d L ix I) (hlt : ∀ n h, (I (flatIx n h)).toNat < 100)
    (loop : Scf.Loop 32) (hok : loop.OK) (htr : loop.trips = 128) (g : Fin loop.trips → Offs) (hg : ∀ t, (g t).Good (n + 512) t.val)
    {hsrc : sl.view.WordExact} {hdst : (chunk o h).view.WordExact} {hsrc' : sl.view.WordExact} {hdst' : (chunk o' h').view.WordExact}
    {hsem : DmaTarget.Typed (nD := nD) (p := (thr d L).2) .vmem (.dma s) (.here (chunk o' h'))}
    {α : Type} {k : PUnit → Prog (TpuEff nD τ sig (Elt F) Λ₀ (thr d L).2) α} {Q : α → sProp (MM F)} :
    iprop(Transfers.MayWaits (thr d L) none O ∗ St d L ix tb I f0 O W sl sl' s s' n)
      ⊢ iprop((St d L ix tb I f0 O W sl' sl s' s (n + 256) -∗ wp frame (wpE (defs₀ (F := F)) 𝒱₀ (thr d L) none) Set.univ (k ⟨⟩) Q)
          -∗ wp frame (wpE (defs₀ (F := F)) 𝒱₀ (thr d L) none) Set.univ
              (.op (.waitDma2 s sl (chunk o h) hsrc hdst) fun _ => (Scf.Loop.for loop hok ⟨⟩ fun t _ => trip sI sT sl (g t) (cV L) (jV L)) >>= fun _ =>
                .op (TpuEff.enqueueDma sl (.here (chunk o' h')) (.dma s) hsrc' hdst' hsem) k) Q) := by
  unfold St
  iintro ⟨#Hmw, Hi, Ht, Hd, Hr, Hs, Hs', HO⟩ Hk
  iapply (wp_landed d L sl s o h (base L + n) _ O W) $$ [Hs HO]
  · isplitr; · iexact Hmw
    isplitl [Hs] <;> iassumption
  iintro ⟨Hb, Hsl, Hv, HO⟩
  rw [wp_bind]
  iapply (wp_build sI sT sl ix tb loop hok htr g (n + 512) hn hg (fun n h => by rw [hs n h]; exact hlt _ _)) $$ [Hi Ht Hsl]
  · isplitl [Hi]; · iexact Hi
    isplitl [Ht] <;> iassumption
  iintro ⟨Hi, Ht, Hsl⟩
  ihave Hr := (Entails.of_eq ((congrArg (fun k => (oLoc d ↦[rowsOf (base L + (n + 512)) k]{fullShare} f0 : sProp (MM F)))
    (show 25600 - (n + 512) = 256 + (25600 - (n + 256 + 512)) by omega)).trans (rows_split d f0 (base L + (n + 512)) 256 _))) $$ Hr
  icases Hr with ⟨Hc, Hr⟩
  iapply (wp_send d L sl s o' h' (base L + (n + 512)) e' (GG d L tb I) _ (fun x y h0 h1 => want_eq d L ix tb I hs (n + 512) hn x y (by omega) h1) f0) $$ [Hsl Hc Hv]
  · isplitl [Hsl]; · iexact Hsl
    isplitl [Hc] <;> iassumption
  iintro Hs
  iapply Hk
  isplitl [Hi]; · iexact Hi
  isplitl [Ht]; · iexact Ht
  isplitl [Hd Hb]
  · rw [rows_split d (GG d L tb I) (base L) n 256]
    isplitl [Hd] <;> iassumption
  isplitl [Hr]
  · rw [show base L + (n + 256 + 512) = base L + (n + 512) + 256 by omega]
    iexact Hr
  isplitl [Hs']; · iexact Hs'
  isplitl [Hs]
  · rw [show base L + (n + 256 + 256) = base L + (n + 512) by omega]
    iexact Hs
  iexact HO

end Half

section Task

variable (d : Dev nD) (L : grid0.Coords)

/-! ## The tile's slice of the indices -/

abbrev idxSl : Memref sig .scVector .hbm S25600 .i32 :=
  iV.slice (Rect.unit (s := S819200) (k0_off1 L) S25600.size (k0_off1_inb L)) (fun _ => rfl)

theorem idxSl_set : (idxSl L).view.set = wordsOf (base L) 25600 := by
  refine (View.set_slice_whole (main_v0_scv : Ref sig .scVector) (Rect.unit (s := S819200) (k0_off1 L) S25600.size (k0_off1_inb L))).trans ?_
  ext y
  rw [Rect.mem_set_unit, mem_wordsOf]
  have e : k0_off1 L 0 = base L := congrFun (k0_off1_eq L) 0
  constructor
  · intro hy; have := hy 0; rw [e] at this; exact this
  · intro hy b
    obtain rfl : b = (0 : Fin 1) := Subsingleton.elim (α := Fin 1) _ _
    rw [e]; exact hy

theorem sliced (I : S819200.Idx → BitVec 32) : Sliced (F := F) d L ((idxSl L).view.read (Elt F) I) I := by
  intro n h
  show I _ = I _
  congr 1
  funext a
  obtain rfl : a = (0 : Fin 1) := Subsingleton.elim (α := Fin 1) _ _
  refine Fin.ext ?_
  show k0_off1 L 0 + 1 * n = base L + n
  rw [congrFun (k0_off1_eq L) 0, Nat.one_mul]; rfl

/-! ## The two slots -/

abbrev slotRect (b : ℕ) (hb : b < 2) : Rect S2x256x128 := Rect.unit (s := S2x256x128) ![b, 0, 0] S1x256x128.size (fun a => by
  match a with
  | 0 => show b + 1 ≤ 2; omega
  | 1 => show 0 + 256 ≤ 256; omega
  | 2 => show 0 + 128 ≤ 128; omega)

theorem mem_slotRect (b : ℕ) (hb : b < 2) (y : S2x256x128.Idx) : y ∈ (slotRect b hb).set ↔ (y 0).val = b := by
  rw [Rect.mem_set_unit]
  constructor
  · intro h
    have h0 : b ≤ (y 0).val ∧ (y 0).val < b + 1 := h 0
    omega
  · intro h a
    match a with
    | 0 => exact ⟨by show b ≤ (y 0).val; omega, by show (y 0).val < b + 1; omega⟩
    | 1 => exact ⟨Nat.zero_le _, by show (y 1).val < 0 + 256; have : (y 1).val < 256 := (y 1).isLt; omega⟩
    | 2 => exact ⟨Nat.zero_le _, by show (y 2).val < 0 + 128; have : (y 2).val < 128 := (y 2).isLt; omega⟩

theorem slot0_set : (slot0 sR).view.set = (slotRect 0 (by omega)).set := by
  show ((sR.view.slice (slotRect 0 (by omega))).reshape S256x128 squeezes_S1x256x128_S256x128.numel_eq).set = _
  rw [View.set_reshape]
  exact View.set_slice_whole (cc0_scratch2 : Ref sig .scVector) _

theorem slot1_set : (slot1 sR).view.set = (slotRect 1 (by omega)).set := by
  show ((sR.view.slice (slotRect 1 (by omega))).reshape S256x128 squeezes_S1x256x128_S256x128.numel_eq).set = _
  rw [View.set_reshape]
  exact View.set_slice_whole (cc0_scratch2 : Ref sig .scVector) _

theorem slots_disjoint : Disjoint (slotRect 0 (by omega)).set (slotRect 1 (by omega)).set :=
  Finset.disjoint_left.mpr fun y h0 h1 => by rw [mem_slotRect] at h0 h1; omega

theorem slots_cover : (slotRect 0 (by omega)).set ∪ (slotRect 1 (by omega)).set = Finset.univ := by
  ext y
  simp only [Finset.mem_union, mem_slotRect, Finset.mem_univ, iff_true]
  have : (y 0).val < 2 := (y 0).isLt
  omega

/-- The row buffer is its two slots. -/
theorem slots_split (f : Buf (Elt F) ((thr d L).loc cc0_scratch2)) :
    ((thr d L).loc cc0_scratch2 ↦{fullShare} f : sProp (MM F))
      ⊢ iprop((∃ f, (slot0 sR).view.loc (thr d L) ↦[(slot0 sR).view.set]{fullShare} f) ∗ ∃ f, (slot1 sR).view.loc (thr d L) ↦[(slot1 sR).view.set]{fullShare} f) := by
  rw [slot0_set, slot1_set]
  refine (Entails.of_eq (congrArg (fun S => ((thr d L).loc cc0_scratch2 ↦[S]{fullShare} f : sProp (MM F))) slots_cover.symm)).trans ?_
  iintro H
  ihave H := (pointsTo_union slots_disjoint).1 $$ H
  icases H with ⟨H0, H1⟩
  isplitl [H0]
  · iexists f; iexact H0
  · iexists f; iexact H1

theorem slots_join :
    iprop((∃ f, (slot0 sR).view.loc (thr d L) ↦[(slot0 sR).view.set]{fullShare} f) ∗ ∃ f, (slot1 sR).view.loc (thr d L) ↦[(slot1 sR).view.set]{fullShare} f)
      ⊢ (iprop(∃ f, (thr d L).loc cc0_scratch2 ↦{fullShare} f) : sProp (MM F)) := by
  rw [slot0_set, slot1_set]
  iintro ⟨⟨%f, H0⟩, %g, H1⟩
  ihave H := (pointsTo_join (ℓ := (thr d L).loc cc0_scratch2) (f := f) (g := g) slots_disjoint) $$ [H0 H1]
  · isplitl [H0] <;> iassumption
  ihave H := (Entails.of_eq (congrArg (fun S => ((thr d L).loc cc0_scratch2 ↦[S]{fullShare} _ : sProp (MM F))) slots_cover)) $$ H
  iexists _; iexact H

/-! ## The tile's own semaphores and buffers -/

abbrev cell_ (s : DmaSem sig) : GSem nD τ sig := (thr d L, .dma s)

theorem ownSems_tile :
    (SparseCore.Cfg.ownSems0 (thr d L) : sProp (MM F))
      = iprop(semVal (cell_ d L cc0_scoped0.sem) 0 ∗ semVal (cell_ d L cc0_scoped1.sem) 0 ∗ semVal (cell_ d L cc0_scratch3.sem) 0 ∗ semVal (cell_ d L cc0_scratch4.sem) 0
          ∗ bigSep (((((SparseCore.Cfg.ownCells (thr d L)).erase (cell_ d L cc0_scoped0.sem)).erase (cell_ d L cc0_scoped1.sem)).erase (cell_ d L cc0_scratch3.sem)).erase (cell_ d L cc0_scratch4.sem))
              fun g => semVal g 0) := by
  have own : ∀ s : DmaSem sig, (SemLoc.dma s : SemLoc sig).isScoped .scVector = true → cell_ d L s ∈ SparseCore.Cfg.ownCells (thr d L) :=
    fun s hs => (SparseCore.Cfg.mem_ownCells (g := cell_ d L s)).mpr ⟨rfl, hs⟩
  have ne : ∀ {s s' : DmaSem sig}, s ≠ s' → cell_ d L s ≠ cell_ d L s' := fun h e => h (SemLoc.dma.inj (Prod.mk.inj e).2)
  unfold SparseCore.Cfg.ownSems0
  rw [SparseCore.bigSep_erase' (own cc0_scoped0.sem (by decide)),
    SparseCore.bigSep_erase' (Finset.mem_erase.mpr ⟨ne (by decide), own cc0_scoped1.sem (by decide)⟩),
    SparseCore.bigSep_erase' (Finset.mem_erase.mpr ⟨ne (by decide), Finset.mem_erase.mpr ⟨ne (by decide), own cc0_scratch3.sem (by decide)⟩⟩),
    SparseCore.bigSep_erase' (Finset.mem_erase.mpr ⟨ne (by decide), Finset.mem_erase.mpr ⟨ne (by decide), Finset.mem_erase.mpr ⟨ne (by decide), own cc0_scratch4.sem (by decide)⟩⟩⟩)]

abbrev ref_ (b : Ref sig .scVector) : DevRef τ sig := (Proc.scVector (cV L) (jV L)).devRef b

theorem ownBufs_tile :
    (SparseCore.Cfg.ownBufs (thr d L) : sProp (MM F))
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((SparseCore.Cfg.ownRefs (τ := τ) (.scVector (cV L) (jV L))).erase (ref_ L cc0_scratch0)).erase (ref_ L cc0_scratch1)).erase (ref_ L cc0_scratch2))
              fun b => iprop(∃ f, ((d, b) : Loc nD τ sig) ↦{fullShare} f)) := by
  have own : ∀ b : Ref sig .scVector, (ref_ L b).owner = .proc (.scVector (cV L) (jV L)) → ref_ L b ∈ SparseCore.Cfg.ownRefs (τ := τ) (.scVector (cV L) (jV L)) :=
    fun b hb => SparseCore.Cfg.mem_ownRefs_of_owner (p := Proc.scVector (cV L) (jV L)) (b := ref_ L b) hb
  have ne : ∀ {b b' : Ref sig .scVector}, b ≠ b' → ref_ L b ≠ ref_ L b' := fun h e => h (Proc.devRef_injective _ e)
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩)]

/-! ## A round -/

theorem off_congr {a b : ℕ} (h : a = b) : (![a, 0] : Fin 2 → ℕ) = ![b, 0] := by rw [h]

theorem rounds_eq : k0_t3_loop.trips = 49 := by decide

/-- One round: the two half rounds, on slot 0 and on slot 1. -/
theorem wp_round (ix : Buf (Elt F) (sI.view.loc (thr d L))) (tb : Buf (Elt F) (sT.view.loc (thr d L)))
    (I : S819200.Idx → BitVec 32) (f0 : Buf (Elt F) (oLoc d)) (O : CellTallies nD τ sig (HIx 1)) (W : Waits sig (HIx 1))
    (hs : Sliced d L ix I) (hlt : ∀ n h, (I (flatIx n h)).toNat < 100) (v2 : BitVec 32) (u : Fin k0_t3_loop.trips) :
    iprop(Transfers.MayWaits (thr d L) none O ∗ St d L ix tb I f0 O W (slot0 sR) (slot1 sR) cc0_scratch3.sem cc0_scratch4.sem (512 * u.val))
      ⊢ wp frame (wpE (defs₀ (F := F)) 𝒱₀ (thr d L) none) Set.univ
          (k0_t3_body L iV (Memref.isWhole_whole _) tV (Memref.isWhole_whole _) oV (Memref.isWhole_whole _)
            sI (Memref.isWhole_whole _) sT (Memref.isWhole_whole _) sR (Memref.isWhole_whole _) cc0_scratch3 cc0_scratch4 cc0_scoped0 cc0_scoped1 v2 u ⟨⟩)
          fun _ => iprop(Transfers.MayWaits (thr d L) none O
            ∗ St d L ix tb I f0 O W (slot0 sR) (slot1 sR) cc0_scratch3.sem cc0_scratch4.sem (512 * (u.val + 1))) := by
  have hu : u.val < 49 := lt_of_lt_of_eq u.isLt rounds_eq
  unfold k0_t3_body
  rw [k0_part17_eq_skeleton, wp_bind]; unfold k0_part17_skel
  simp only [Prog.lift, Prog.bind_op, Prog.bind_ret, Prog.pure_eq_ret, t4_body_eq, t5_body_eq]
  iintro ⟨#Hmw, H⟩
  iapply (wp_half d L ix tb I f0 O W (slot0 sR) (slot1 sR) cc0_scratch3.sem cc0_scratch4.sem (512 * u.val) (by omega)
    (k0_off69 L u 0#32) (k0_off103 L u 0#32) (k0_off69_inb L u 0) (k0_off103_inb L u 0)
    ((off103_eq L u 0).trans (off_congr (by show base L + 512 * u.val + 512 + 256 * 0 = _; omega)))
    hs hlt k0_t4_loop k0_t4_ok (by decide) (offs4 u) (fun t => offs4_good u t)) $$ [H]
  · isplitr; · iexact Hmw
    iexact H
  iintro H
  rw [wp_ret]; imodintro
  iapply (wp_half d L ix tb I f0 O W (slot1 sR) (slot0 sR) cc0_scratch4.sem cc0_scratch3.sem (512 * u.val + 256) (by omega)
    (k0_off69 L u 1#32) (k0_off103 L u 1#32) (k0_off69_inb L u 1) (k0_off103_inb L u 1)
    ((off103_eq L u 1).trans (off_congr (by show base L + 512 * u.val + 512 + 256 * 1 = _; omega)))
    hs hlt k0_t5_loop k0_t5_ok (by decide) (offs5 u) (fun t => offs5_good u t)) $$ [H]
  · isplitr; · iexact Hmw
    iexact H
  iintro H
  rw [wp_ret]; imodintro
  isplitr; · iexact Hmw
  rw [show 512 * (u.val + 1) = 512 * u.val + 256 + 256 by omega]
  iexact H

/-! ## The task -/

theorem pts_tV (q : PosShare TreeShare) (tab : S100x128.Idx → Elt F .f32) :
    (tV.view.loc (thr d L) ↦[tV.view.set]{q} tab : sProp (MM F)) = (tLoc d ↦{q} tab) := by
  rw [show tV.view.set = Finset.univ from View.set_whole _]

theorem pts_idxSl (I : S819200.Idx → BitVec 32) :
    ((idxSl L).view.loc (thr d L) ↦[(idxSl L).view.set]{fullShare} I : sProp (MM F)) = (iLoc d ↦[wordsOf (base L) 25600]{fullShare} I) := by
  rw [idxSl_set]

/-- The table's scratch after its fetch. -/
theorem table_fetched (f : Buf (Elt F) ((thr d L).loc cc0_scratch1)) (tab : S100x128.Idx → Elt F .f32) :
    (sT.view.loc (thr d L) ↦{fullShare} sT.view.write (Elt F) f (tV.view.read (Elt F) tab) Finset.univ : sProp (MM F)) = (sT.view.loc (thr d L) ↦{fullShare} tab) :=
  congrArg (fun g => (sT.view.loc (thr d L) ↦{fullShare} g : sProp (MM F))) (View.write_whole_univ _ _ _)

/-- The indices' scratch after its fetch. -/
theorem indices_fetched (f : Buf (Elt F) ((thr d L).loc cc0_scratch0)) (I : S819200.Idx → BitVec 32) :
    (sI.view.loc (thr d L) ↦{fullShare} sI.view.write (Elt F) f ((idxSl L).view.read (Elt F) I) Finset.univ : sProp (MM F))
      = (sI.view.loc (thr d L) ↦{fullShare} (idxSl L).view.read (Elt F) I) :=
  congrArg (fun g => (sI.view.loc (thr d L) ↦{fullShare} g : sProp (MM F))) (View.write_whole_univ _ _ _)

/-- The tile's rows: the first two blocks and the rest. -/
theorem first_rows (f : Buf (Elt F) (oLoc d)) :
    (oLoc d ↦[rowsOf (base L) 25600]{fullShare} f : sProp (MM F))
      = iprop((oLoc d ↦[rowsOf (base L) 256]{fullShare} f) ∗ (oLoc d ↦[rowsOf (base L + 256) 256]{fullShare} f) ∗ oLoc d ↦[rowsOf (base L + 512) 25088]{fullShare} f) := by
  rw [show (25600 : ℕ) = 256 + (256 + 25088) by rfl, rows_split d f (base L) 256, rows_split d f (base L + 256) 256]

/-- What the rounds start from. -/
theorem st_start (ix : Buf (Elt F) (sI.view.loc (thr d L))) (tb : Buf (Elt F) (sT.view.loc (thr d L)))
    (I : S819200.Idx → BitVec 32) (f0 : Buf (Elt F) (oLoc d)) (O : CellTallies nD τ sig (HIx 1)) (W : Waits sig (HIx 1)) :
    iprop((sI.view.loc (thr d L) ↦{fullShare} ix) ∗ (sT.view.loc (thr d L) ↦{fullShare} tb) ∗ (oLoc d ↦[rowsOf (base L + 512) 25088]{fullShare} f0)
        ∗ Sent d L (slot0 sR) cc0_scratch3.sem (base L) (GG d L tb I) ∗ Sent d L (slot1 sR) cc0_scratch4.sem (base L + 256) (GG d L tb I) ∗ Owes d L O W)
      ⊢ St d L ix tb I f0 O W (slot0 sR) (slot1 sR) cc0_scratch3.sem cc0_scratch4.sem (512 * 0) := by
  unfold St
  rw [show rowsOf (base L) (512 * 0) = ∅ from Finset.eq_empty_of_forall_notMem fun y hy => by have := mem_rowsOf.mp hy; omega, pointsTo_empty]
  iintro ⟨HsI, HsT, Hor, Hs0, Hs1, HO⟩
  isplitl [HsI]; · iexact HsI
  isplitl [HsT]; · iexact HsT
  isplitr; · iempintro
  isplitl [Hor]; · iexact Hor
  isplitl [Hs0]; · iexact Hs0
  isplitl [Hs1] <;> iassumption

/-- The tile's rows when the last two blocks have landed. -/
theorem last_rows (f : Buf (Elt F) (oLoc d)) :
    (oLoc d ↦[rowsOf (base L) 25600]{fullShare} f : sProp (MM F))
      = iprop((oLoc d ↦[rowsOf (base L) 25088]{fullShare} f) ∗ (oLoc d ↦[rowsOf (base L + 25088) 256]{fullShare} f) ∗ oLoc d ↦[rowsOf (base L + 25344) 256]{fullShare} f) := by
  rw [show (25600 : ℕ) = 25088 + (256 + 256) by rfl, rows_split d f (base L) 25088, rows_split d f (base L + 25088) 256]

/-- The whole task: from the tile's words of the indices, a share of the table and the tile's rows of the result, to the
    rows the indices name. -/
theorem tile_body (hF : (K (F := F)).Facts) (O : CellTallies nD τ sig (HIx 1)) (W : Waits sig (HIx 1)) (hO : ∀ g, O g none = 0)
    (q : PosShare TreeShare) (I : S819200.Idx → BitVec 32) (tab : S100x128.Idx → Elt F .f32) (f0 : Buf (Elt F) (oLoc d))
    (hlt : ∀ n h, (I (flatIx n h)).toNat < 100) :
    (iprop(levAts (K (F := F)).L (K (F := F)).lev
        ∗ ((iLoc d ↦[wordsOf (base L) 25600]{fullShare} I) ∗ (tLoc d ↦{q} tab) ∗ (oLoc d ↦[rowsOf (base L) 25600]{fullShare} f0))
        ∗ scopedBufs (thr d L) ∗ scopedSems0 (thr d L) ∗ owes (thr d L) O W) : sProp (MM F))
      ⊢ wp frame (wpE (defs₀ (F := F)) 𝒱₀ (thr d L) none) Set.univ
          (cc0__emb_kernel L iV (Memref.isWhole_whole _) tV (Memref.isWhole_whole _) oV (Memref.isWhole_whole _)
            sI (Memref.isWhole_whole _) sT (Memref.isWhole_whole _) sR (Memref.isWhole_whole _) cc0_scratch3 cc0_scratch4 cc0_scoped0 cc0_scoped1)
          fun _ => iprop(((iLoc d ↦[wordsOf (base L) 25600]{fullShare} I) ∗ (tLoc d ↦{q} tab) ∗ (oLoc d ↦[rowsOf (base L) 25600]{fullShare} gatherRows tab I))
            ∗ scopedBufs (thr d L) ∗ scopedSems0 (thr d L)
            ∗ ∃ W', ⌜∀ p ∈ W', p ∈ W ∨ p.2 = none⌝ ∗ owes (thr d L) O W') := by
  have hb := base_le L
  rw [cc0__emb_kernel_eq_skeleton]; unfold cc0__emb_kernel_skel
  rw [k0_part18_eq_skeleton]; unfold k0_part18_skel
  simp only [Prog.lift, Prog.bind_op, Prog.bind_ret, Prog.pure_eq_ret, t1_body_eq, t2_body_eq]
  rw [(K (F := F)).scopedBufs_V hF d (cV L) (jV L), SparseCore.Cfg.scopedSems0_V (Val := Elt F) d (cV L) (jV L), ownSems_tile, ownBufs_tile]
  iintro ⟨#Hlv, ⟨Hi, Ht, Ho⟩, ⟨⟨%fi, HsI⟩, ⟨%ft, HsT⟩, ⟨%fr, HsR⟩, Hbufs⟩, ⟨Hv0, Hv1, Hv3, Hv4, Hsems⟩, HO⟩
  ihave #Hmw := ((K (F := F)).mayWaits_none (thr := thr d L) hO) $$ Hlv
  -- the table
  iapply (Transfers.wp_dmaLocal EC 𝒱₀ (thr d L) none none sT.view.dmaCredit rfl (View.dmaCredit_pos sT.view (show 0 < S100x128.numel by decide)) (Finset.subset_univ _)) $$ [Ht HsT Hv0]
  · isplitl [Ht]; · iapply (Entails.of_eq (pts_tV d L q tab).symm); iexact Ht
    isplitl [HsT] <;> iassumption
  iintro Hf
  iapply (Transfers.wp_waitLocalO EC 𝒱₀ (thr d L) none none rfl) $$ [Hf HO]
  · isplitl [Hf]; · iexact Hf
    isplitl [HO]; · iexact HO
    iapply (Transfers.MayWaits.elim _); iexact Hmw
  iintro ⟨⟨HsT, Ht⟩, Hv0, HO⟩
  ihave HsT := (Entails.of_eq (table_fetched d L ft tab)) $$ HsT
  -- the indices
  iapply (Transfers.wp_dmaLocal EC 𝒱₀ (thr d L) none none sI.view.dmaCredit rfl (View.dmaCredit_pos sI.view (show 0 < S25600.numel by decide)) (Finset.subset_univ _)) $$ [Hi HsI Hv1]
  · isplitl [Hi]; · iapply (Entails.of_eq (pts_idxSl d L I).symm); iexact Hi
    isplitl [HsI] <;> iassumption
  iintro Hf
  iapply (Transfers.wp_waitLocalO EC 𝒱₀ (thr d L) none none rfl) $$ [Hf HO]
  · isplitl [Hf]; · iexact Hf
    isplitl [HO]; · iexact HO
    iapply (Transfers.MayWaits.elim _); iexact Hmw
  iintro ⟨⟨HsI, Hi⟩, Hv1, HO⟩
  ihave HsI := (Entails.of_eq (indices_fetched d L fi I)) $$ HsI
  -- the first two blocks
  ihave HsR := (slots_split d L fr) $$ HsR
  icases HsR with ⟨HsR0, HsR1⟩
  ihave Ho := (Entails.of_eq (first_rows d L f0)) $$ Ho
  icases Ho with ⟨Ho0, Ho1, Hor⟩
  rw [wp_bind, wp_bind]
  iapply (wp_build sI sT (slot0 sR) ((idxSl L).view.read (Elt F) I) tab k0_t1_loop k0_t1_ok (by decide) offs1 0 (by omega) offs1_good
    (fun n h => by rw [sliced d L I n h]; exact hlt _ _)) $$ [HsI HsT HsR0]
  · isplitl [HsI]; · iexact HsI
    isplitl [HsT] <;> iassumption
  iintro ⟨HsI, HsT, HsR0⟩
  iapply (wp_send d L (slot0 sR) cc0_scratch3.sem (k0_off35 L 0#32) (k0_off35_inb L 0) (base L) ((off35_eq L 0).trans (off_congr rfl))
    (GG d L tab I) (want (sT.view.read (Elt F) tab) (sI.view.read (Elt F) ((idxSl L).view.read (Elt F) I)) 0 (by omega))
    (fun x y h0 h1 => want_eq d L _ tab I (sliced d L I) 0 (by omega) x y (by omega) h1) f0) $$ [HsR0 Ho0 Hv3]
  · isplitl [HsR0]; · iexact HsR0
    isplitl [Ho0] <;> iassumption
  iintro Hs0
  rw [wp_bind]
  iapply (wp_build sI sT (slot1 sR) ((idxSl L).view.read (Elt F) I) tab k0_t2_loop k0_t2_ok (by decide) offs2 256 (by omega) offs2_good
    (fun n h => by rw [sliced d L I n h]; exact hlt _ _)) $$ [HsI HsT HsR1]
  · isplitl [HsI]; · iexact HsI
    isplitl [HsT] <;> iassumption
  iintro ⟨HsI, HsT, HsR1⟩
  rw [wp_ret]; imodintro
  iapply (wp_send d L (slot1 sR) cc0_scratch4.sem (k0_off35 L 256#32) (k0_off35_inb L 1) (base L + 256) ((off35_eq L 1).trans (off_congr rfl))
    (GG d L tab I) (want (sT.view.read (Elt F) tab) (sI.view.read (Elt F) ((idxSl L).view.read (Elt F) I)) 256 (by omega))
    (fun x y h0 h1 => want_eq d L _ tab I (sliced d L I) 256 (by omega) x y (by omega) h1) f0) $$ [HsR1 Ho1 Hv4]
  · isplitl [HsR1]; · iexact HsR1
    isplitl [Ho1] <;> iassumption
  iintro Hs1
  rw [wp_bind]
  -- the rounds
  iapply (Scf.wp_for frame (wpE (defs₀ (F := F)) 𝒱₀ (thr d L) none) Set.univ k0_t3_loop.lb k0_t3_loop.ub k0_t3_loop.st k0_t3_ok ⟨⟩ _
    (fun n _ => iprop(Transfers.MayWaits (thr d L) none O
      ∗ St d L ((idxSl L).view.read (Elt F) I) tab I f0 O W (slot0 sR) (slot1 sR) cc0_scratch3.sem cc0_scratch4.sem (512 * n)))
    (fun u _ => wp_round d L _ tab I f0 O W (sliced d L I) hlt _ u))
  isplitl [HsI HsT Hor Hs0 Hs1 HO]
  · isplitr; · iexact Hmw
    iapply (st_start d L _ tab I f0 O W)
    isplitl [HsI]; · iexact HsI
    isplitl [HsT]; · iexact HsT
    isplitl [Hor]; · iexact Hor
    isplitl [Hs0]; · iexact Hs0
    isplitl [Hs1]; · iexact Hs1
    unfold Owes
    iexists _
    isplitr
    rotate_left
    · iexact HO
    ipureintro
    exact owes_insert (owes_insert fun p hp => .inl hp)
  iintro %_ ⟨_, H⟩
  rw [show Scf.trips k0_t3_loop.lb k0_t3_loop.ub k0_t3_loop.st = 49 from rounds_eq]
  unfold St
  icases H with ⟨HsI, HsT, Ho, Hor, Hs0, Hs1, HO⟩
  -- the last two blocks
  iapply (wp_landed d L (slot0 sR) cc0_scratch3.sem (k0_off35 L 25088#32) (k0_off35_inb L 2) (base L + 25088) (GG d L tab I) O W) $$ [Hs0 HO]
  · isplitr; · iexact Hmw
    isplitl [Hs0] <;> iassumption
  iintro ⟨Ho0, HsR0, Hv3, HO⟩
  iapply (wp_landed d L (slot1 sR) cc0_scratch4.sem (k0_off35 L 25344#32) (k0_off35_inb L 3) (base L + 25344) (GG d L tab I) O W) $$ [Hs1 HO]
  · isplitr; · iexact Hmw
    isplitl [Hs1] <;> iassumption
  iintro ⟨Ho1, HsR1, Hv4, HO⟩
  rw [wp_ret]; imodintro
  isplitl [Hi Ht Ho Ho0 Ho1]
  · isplitl [Hi]; · iapply (Entails.of_eq (pts_idxSl d L I)); iexact Hi
    isplitl [Ht]; · iapply (Entails.of_eq (pts_tV d L q tab)); iexact Ht
    iapply (Entails.of_eq (last_rows d L (gatherRows tab I)).symm)
    isplitl [Ho]; · iexact Ho
    isplitl [Ho0] ; · iexact Ho0
    iexact Ho1
  isplitl [HsI HsT HsR0 HsR1 Hbufs]
  · isplitl [HsI]; · iexists _; iexact HsI
    isplitl [HsT]; · iexists _; iexact HsT
    isplitr [Hbufs]
    · iapply (slots_join d L)
      isplitl [HsR0]; · iexact HsR0
      iexact HsR1
    iexact Hbufs
  isplitr [HO]
  · isplitl [Hv0]; · iexact Hv0
    isplitl [Hv1]; · iexact Hv1
    isplitl [Hv3]; · iexact Hv3
    isplitl [Hv4] <;> iassumption
  unfold Owes
  iexact HO

end Task

end Cert.Proof

end
-- ==== Proof.Launch.lean ====
/-
  The launch: each of the 32 tiles takes its slice of the flat indices, a read share of the table and its rows of the
  result, and brings them back with the rows gathered (`P`); the shares of all tiles make up the whole arrays
  (`go_all`, `td_all`); and the launch theorem's obligations about the tiles.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.ShloMosaic.Transfers (shareTokN shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The tiles and their regions -/

/-- The grid point of SparseCore `c`'s subcore `s`. -/
def tileAt (c : Fin 2) (s : Fin 16) : grid0.Coords :=
  fun | 0 => c | 1 => s | ⟨_ + 2, h⟩ => absurd h (Nat.not_lt.2 (Nat.le_add_left _ _))

/-- Where a tile's words and rows begin. -/
abbrev start (p : Fin 2 × Fin 16) : ℕ := base (tileAt p.1 p.2)

theorem start_eq (p : Fin 2 × Fin 16) : start p = 25600 * (2 * p.2.val + p.1.val) := by
  show 51200 * p.2.val + 25600 * p.1.val = _; omega

/-- Two tiles that share a position are one tile. -/
theorem start_inj {p q : Fin 2 × Fin 16} {n : ℕ} (h : start p ≤ n ∧ n < start p + 25600) (h' : start q ≤ n ∧ n < start q + 25600) : p = q := by
  rw [start_eq] at h h'
  have := p.1.isLt; have := q.1.isLt
  exact Prod.ext (Fin.ext (by omega)) (Fin.ext (by omega))

/-- Every position is some tile's. -/
theorem start_exists {n : ℕ} (h : n < 819200) : ∃ p, start p ≤ n ∧ n < start p + 25600 := by
  refine ⟨(⟨n / 25600 % 2, by omega⟩, ⟨n / 25600 / 2, by omega⟩), ?_⟩
  rw [start_eq]; dsimp only; omega

theorem words_split (d : Dev nD) (f : Buf (Elt F) (iLoc d)) :
    (iLoc d ↦{fullShare} f : sProp (MM F)) = bigSep Finset.univ fun p : Fin 2 × Fin 16 => iLoc d ↦[wordsOf (start p) 25600]{fullShare} f := by
  rw [← pointsTo_biUnion Finset.univ (ℓ := iLoc d) (fun p : Fin 2 × Fin 16 => wordsOf (start p) 25600)
    fun p _ q _ hpq => Finset.disjoint_left.mpr fun y h1 h2 => hpq (start_inj (mem_wordsOf.mp h1) (mem_wordsOf.mp h2))]
  refine congrArg (fun S => (iLoc d ↦[S]{fullShare} f : sProp (MM F))) (Finset.ext fun y => ?_)
  obtain ⟨p, hp⟩ := start_exists (show (y 0).val < 819200 from (y 0).isLt)
  exact ⟨fun _ => Finset.mem_biUnion.mpr ⟨p, Finset.mem_univ _, mem_wordsOf.mpr hp⟩, fun _ => Finset.mem_univ _⟩

theorem tileRows_split (d : Dev nD) (f : Buf (Elt F) (oLoc d)) :
    (oLoc d ↦{fullShare} f : sProp (MM F)) = bigSep Finset.univ fun p : Fin 2 × Fin 16 => oLoc d ↦[rowsOf (start p) 25600]{fullShare} f := by
  rw [← pointsTo_biUnion Finset.univ (ℓ := oLoc d) (fun p : Fin 2 × Fin 16 => rowsOf (start p) 25600)
    fun p _ q _ hpq => Finset.disjoint_left.mpr fun y h1 h2 => hpq (start_inj (mem_rowsOf.mp h1) (mem_rowsOf.mp h2))]
  refine congrArg (fun S => (oLoc d ↦[S]{fullShare} f : sProp (MM F))) (Finset.ext fun y => ?_)
  obtain ⟨p, hp⟩ := start_exists (show (y 0).val < 819200 from (y 0).isLt)
  exact ⟨fun _ => Finset.mem_biUnion.mpr ⟨p, Finset.mem_univ _, mem_rowsOf.mpr hp⟩, fun _ => Finset.mem_univ _⟩

/-- The tile's read share of the table. -/
def tabShare (p : Fin 2 × Fin 16) : PosShare TreeShare := shareTokN fullShare (finProdFinEquiv p).val

/-- The table: what stays behind, and every tile's share. -/
theorem table_split (d : Dev nD) (f : Buf (Elt F) (tLoc d)) :
    (tLoc d ↦{fullShare} f : sProp (MM F))
      = iprop((tLoc d ↦{shareDrop fullShare 32} f) ∗ bigSep Finset.univ fun p : Fin 2 × Fin 16 => tLoc d ↦{tabShare p} f) := by
  have h := Transfers.pointsTo_toks (nD := nD) (Ix := HIx 1) (Name := ℕ) (U := UU) (Lvl := ℕ) (ℓ := tLoc d) (S := Finset.univ) (f := f) fullShare (2 * 16)
  refine (BI.equiv_iff.mp ⟨h.1, h.2⟩).trans ?_
  rw [bigSep_univ_equiv (finProdFinEquiv (m := 2) (n := 16))]
  rfl

/-! ## What the handshakes carry -/

section Payload

variable (m : (ℓ : Loc nD τ sig) → Buf (Elt F) ℓ)

abbrev aLoc (d : Dev nD) : Loc nD τ sig := (SparseCore.T d : Thread nD τ).loc main_arg0
abbrev rLoc (d : Dev nD) : Loc nD τ sig := (SparseCore.T d : Thread nD τ).loc main_v2

/-- The index argument laid flat. -/
def flat (d : Dev nD) : S819200.Idx → BitVec 32 := shapeCast S819200 (m (aLoc d)) shapeCasts_S4096x200_S819200

/-- The table argument. -/
def table (d : Dev nD) : S100x128.Idx → Elt F .f32 := m (tLoc d)

/-- What a tile is handed. -/
def tileIn (d : Dev nD) (p : Fin 2 × Fin 16) : sProp (MM F) :=
  iprop((iLoc d ↦[wordsOf (start p) 25600]{fullShare} flat m d) ∗ (tLoc d ↦{tabShare p} table m d) ∗ (oLoc d ↦[rowsOf (start p) 25600]{fullShare} m (oLoc d)))

/-- What a tile hands back. -/
def tileOut (d : Dev nD) (p : Fin 2 × Fin 16) : sProp (MM F) :=
  iprop((iLoc d ↦[wordsOf (start p) 25600]{fullShare} flat m d) ∗ (tLoc d ↦{tabShare p} table m d)
    ∗ (oLoc d ↦[rowsOf (start p) 25600]{fullShare} gatherRows (table m d) (flat m d)))

instance tileIn_storable (d : Dev nD) (p : Fin 2 × Fin 16) : BI.Storable (upEmb : UEmb _ (MM F)) (tileIn m d p) := by
  unfold tileIn; infer_instance
instance tileOut_storable (d : Dev nD) (p : Fin 2 × Fin 16) : BI.Storable (upEmb : UEmb _ (MM F)) (tileOut m d p) := by
  unfold tileOut; infer_instance

/-- All tiles' shares, handed out. -/
theorem tileIn_all (d : Dev nD) :
    (iprop((iLoc d ↦{fullShare} flat m d) ∗ (tLoc d ↦{fullShare} m (tLoc d)) ∗ (oLoc d ↦{fullShare} m (oLoc d))) : sProp (MM F))
      ⊢ iprop((tLoc d ↦{shareDrop fullShare 32} table m d) ∗ bigSep Finset.univ fun p => tileIn m d p) := by
  unfold tileIn
  rw [bigSep_sep', bigSep_sep', words_split, table_split, tileRows_split]
  iintro ⟨Hi, ⟨Hd, Ht⟩, Ho⟩
  isplitl [Hd]; · iexact Hd
  isplitl [Hi]; · iexact Hi
  isplitl [Ht]; · iexact Ht
  iexact Ho

/-- All tiles' shares, handed back. -/
theorem tileOut_all (d : Dev nD) :
    (iprop((tLoc d ↦{shareDrop fullShare 32} table m d) ∗ bigSep Finset.univ fun p => tileOut m d p) : sProp (MM F))
      ⊢ iprop((iLoc d ↦{fullShare} flat m d) ∗ (tLoc d ↦{fullShare} m (tLoc d)) ∗ (oLoc d ↦{fullShare} gatherRows (table m d) (flat m d))) := by
  unfold tileOut
  rw [bigSep_sep', bigSep_sep', words_split, table_split, tileRows_split]
  iintro ⟨Hd, Hi, Ht, Ho⟩
  isplitl [Hi]; · iexact Hi
  isplitl [Hd Ht]
  · isplitl [Hd]; · iexact Hd
    iexact Ht
  iexact Ho

/-- The one call's payloads: a SparseCore takes its tiles' shares and brings them back. -/
def P : (K (F := F)).Pay (nD := nD) (Val := Elt F) (Name := ℕ) (U := UU) where
  st := fun q d c => match q with | 0 => bigSep Finset.univ fun s : Fin 16 => tileIn m d ((c : Fin 2), s)
  dn := fun q d c => match q with | 0 => bigSep Finset.univ fun s : Fin 16 => tileOut m d ((c : Fin 2), s)
  go := fun q d c s => match q with | 0 => tileIn m d ((c : Fin 2), (s : Fin 16))
  td := fun q d c s => match q with | 0 => tileOut m d ((c : Fin 2), (s : Fin 16))
  x := fun _ _ => iprop(emp)

instance P_storable : (P m).IsStorable where
  st q d c := match q with
    | 0 => (inferInstance : BI.Storable (upEmb : UEmb _ (MM F)) (bigSep Finset.univ fun s : Fin 16 => tileIn m d ((c : Fin 2), s)))
  dn q d c := match q with
    | 0 => (inferInstance : BI.Storable (upEmb : UEmb _ (MM F)) (bigSep Finset.univ fun s : Fin 16 => tileOut m d ((c : Fin 2), s)))
  go q d c s := match q with | 0 => (tileIn_storable m d ((c : Fin 2), (s : Fin 16)))
  td q d c s := match q with | 0 => (tileOut_storable m d ((c : Fin 2), (s : Fin 16)))

theorem st_eq (d : Dev nD) : (bigSep Finset.univ fun c : Fin ((K (F := F)).nCore 0) => (P m).st 0 d c) = bigSep Finset.univ fun p => tileIn m d p :=
  (bigSep_univ_prod (fun p : Fin 2 × Fin 16 => tileIn m d p)).symm
theorem dn_eq (d : Dev nD) : (bigSep Finset.univ fun c : Fin ((K (F := F)).nCore 0) => (P m).dn 0 d c) = bigSep Finset.univ fun p => tileOut m d p :=
  (bigSep_univ_prod (fun p : Fin 2 × Fin 16 => tileOut m d p)).symm

/-! ## The obligations about the tiles -/

/-- What the proof asks of the launch memory: every index is a row of the table. -/
def InVocab : Prop := ∀ (d : Dev nD) (j : S4096x200.Idx), (m (aLoc d) j : BitVec 32).toNat < 100

theorem flat_lt (h : InVocab m) (d : Dev nD) (n : ℕ) (hn : n < 819200) : (flat m d (flatIx n hn)).toNat < 100 := h d _

theorem defs_tile (c : Fin τ.nSC) (s : Fin τ.nSub) :
    defs₀ (F := F) (.scVector c s) 0 ()
      = SparseCore.onTile hcore0 hsub0 (fun c s => cc0__emb_kernel (tileAt c s)
          iV (Memref.isWhole_whole _) tV (Memref.isWhole_whole _) oV (Memref.isWhole_whole _)
          sI (Memref.isWhole_whole _) sT (Memref.isWhole_whole _) sR (Memref.isWhole_whole _) cc0_scratch3 cc0_scratch4 cc0_scoped0 cc0_scoped1) ⟨⟩ c s := rfl

/-- A task's bound in the launch theorem's words. -/
theorem owed_launch {thr : Thread nD τ} {R A A' B C : sProp (MM F)} {O : CellTallies nD τ sig (HIx 1)} {W : Waits sig (HIx 1)}
    {Z : Option (Fin 1) → Prop} {prog : Prog (TpuEff nD τ sig (Elt F) Λ₀ thr.2) PUnit}
    (h : iprop(R ∗ A ∗ B ∗ C ∗ owes thr O W) ⊢ wp frame (wpE (defs₀ (F := F)) 𝒱₀ thr none) Set.univ prog
      fun _ => iprop(A' ∗ B ∗ C ∗ ∃ W', ⌜∀ p ∈ W', p ∈ W ∨ p.2 = none⌝ ∗ owes thr O W')) :
    iprop(R ∗ emp ∗ A ∗ B ∗ C ∗ owes thr O W) ⊢ wp frame (wpE (defs₀ (F := F)) 𝒱₀ thr none) Set.univ prog
      fun _ => iprop(A' ∗ B ∗ C ∗ ∃ W', ⌜∀ p ∈ W', p ∈ W ∨ p.2 = none ∨ Z p.2⌝ ∗ owes thr O W') := by
  refine BIBase.Entails.trans ?_ (h.trans (wp_mono frame _ _ fun _ => ?_))
  · iintro ⟨HR, -, H⟩
    isplitl [HR]; · iexact HR
    iexact H
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (h : InVocab m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs_tile]; simp only [SparseCore.onTile, hc, and_self, ↓reduceDIte]
  exact owed_launch (tile_body d (tileAt ⟨_, hc.1⟩ ⟨_, hc.2⟩) scFacts O W hO (tabShare ((c : Fin 2), (i : Fin 16))) (flat m d) (table m d) (m (oLoc d))
    (flat_lt m h d))

theorem vecSplit : (K (F := F)).VecSplit' (P m) 0 := by
  intro d c
  show (bigSep Finset.univ fun s : Fin 16 => tileIn m d ((c : Fin 2), s)) ⊢ |={Set.univ}=> iprop(
    (bigSep Finset.univ fun s : Fin 16 => tileIn m d ((c : Fin 2), s))
      ∗ ((bigSep Finset.univ fun s : Fin 16 => tileOut m d ((c : Fin 2), s)) -∗ bigSep Finset.univ fun s : Fin 16 => tileOut m d ((c : Fin 2), s)))
  iintro H; imodintro
  isplitl [H]; · iexact H
  iintro H; iexact H

end Payload

end Cert.Proof

end
-- ==== Proof.Run.lean ====
/-
  `@main`: the indices laid flat, the call, the result folded back; and the program's run over any float instance
  (`run_main`) — the arguments as they were, the result `folded`, every semaphore at zero.
-/
module

public import proofs.«01_k».proof.Proof.Launch

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.ShloMosaic.Transfers (shareTokN shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]
variable (m : (ℓ : Loc nD τ sig) → Buf (Elt F) ℓ) (ρ : Dev nD → PrngReg)

/-! ## The launch element: the handshakes' rounds; the kernel's own protocol has none -/

def u₀ : UU := (initOf (K (F := F)).hsCells (K (F := F)).hsToks, 1)

/-- Nothing, for every member. -/
theorem nothing_each {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing_each]; iempintro
  unfold P; dsimp only
  rw [show (bigSep Finset.univ fun _ : Thread nD τ => bigSep Finset.univ fun _ : Fin 1 => (iprop(emp) : sProp (MM F))) = iprop(emp) from by
    rw [bigSep_congr fun _ _ => nothing_each _, nothing_each]]
  iempintro

/-! ## @main on the TensorCore -/

/-- The result: the gathered rows folded back to the argument's two axes. -/
def folded (d : Dev nD) : S4096x200x128.Idx → Elt F .f32 :=
  shapeCast S4096x200x128 (gatherRows (table m d) (flat m d)) shapeCasts_S819200x128_S4096x200x128

abbrev onDev (r : Ref sig .tc) : DevRef τ sig := Proc.devRef .tc r
abbrev opFlat : HloOp τ sig (Elt F) := StableHlo.reshape main_arg0 main_v0 (rfl : (.i32 : EltTy) = .i32) shapeCasts_S4096x200_S819200
abbrev opFold : HloOp τ sig (Elt F) := StableHlo.reshape main_v1 main_v2 (rfl : (.f32 : EltTy) = .f32) shapeCasts_S819200x128_S4096x200x128

theorem arrays_eq (d : Dev nD) (W : (b : Ref sig .tc) → Buf (Elt F) ((d.tc : Thread nD τ).loc b)) :
    (unscopedBufs d W : sProp (MM F)) = iprop((aLoc d ↦{fullShare} W main_arg0) ∗ (tLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- Two arrays held. -/
theorem held_two (d : Dev nD) (x y : Ref sig .tc) (h : onDev x ∉ ({onDev y} : Finset (DevRef τ sig))) (W : Valuation τ sig (Elt F)) :
    (held (SparseCore.T d) {onDev x, onDev y} W : sProp (MM F))
      = iprop(((SparseCore.T d : Thread nD τ).loc x ↦{fullShare} W (onDev x)) ∗ (SparseCore.T d : Thread nD τ).loc y ↦{fullShare} W (onDev y)) := by
  unfold held
  rw [SparseCore.bigSep_insert' h, bigSep_singleton]

/-- The launch memory as a valuation, and the one with the gathered rows in place. -/
def atLaunch (d : Dev nD) : Valuation τ sig (Elt F) := fun b => m (d, b)
def gathered (d : Dev nD) : Valuation τ sig (Elt F) := Function.update (atLaunch m d) (onDev main_v1) (gatherRows (table m d) (flat m d))

theorem gathered_rows (d : Dev nD) : gathered m d (onDev main_v1) = gatherRows (table m d) (flat m d) := Function.update_self _ _ _
theorem gathered_result (d : Dev nD) : gathered m d (onDev main_v2) = m (rLoc d) :=
  Function.update_of_ne (show onDev main_v2 ≠ onDev main_v1 by decide) _ _

theorem flat_result (d : Dev nD) :
    (held (SparseCore.T d) {onDev main_arg0, onDev main_v0} ((opFlat (F := F)).result (atLaunch m d)) : sProp (MM F))
      = iprop((aLoc d ↦{fullShare} m (aLoc d)) ∗ (iLoc d ↦{fullShare} flat m d)) := by
  rw [held_two d main_arg0 main_v0 (by decide), show (opFlat (F := F)).result (atLaunch m d) (onDev main_v0) = flat m d from reshape_result _ _ _ _ _ _ _,
    show (opFlat (F := F)).result (atLaunch m d) (onDev main_arg0) = m (aLoc d) from reshape_result_ne _ _ _ _ _ _ _ (by decide)]

theorem fold_result (d : Dev nD) :
    (held (SparseCore.T d) {onDev main_v1, onDev main_v2} ((opFold (F := F)).result (gathered m d)) : sProp (MM F))
      = iprop((oLoc d ↦{fullShare} gatherRows (table m d) (flat m d)) ∗ (rLoc d ↦{fullShare} folded m d)) := by
  rw [held_two d main_v1 main_v2 (by decide),
    show (opFold (F := F)).result (gathered m d) (onDev main_v2) = folded m d from
      (reshape_result _ _ _ _ _ _ _).trans (congrArg (fun f => shapeCast S4096x200x128 f shapeCasts_S819200x128_S4096x200x128) (gathered_rows m d)),
    show (opFold (F := F)).result (gathered m d) (onDev main_v1) = gatherRows (table m d) (flat m d) from
      (reshape_result_ne _ _ _ _ _ _ _ (by decide)).trans (gathered_rows m d)]

/-- What @main leaves: the arguments at their launch contents and the result. -/
abbrev FIN (d : Dev nD) : sProp (MM F) :=
  iprop((aLoc d ↦{fullShare} m (aLoc d)) ∗ (tLoc d ↦{fullShare} m (tLoc d)) ∗ (rLoc d ↦{fullShare} folded m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Ha, Ht, Hi, Ho, Hr⟩, Hts, -⟩, -⟩
  -- the indices laid flat
  iapply (wp_hlo_within 𝒱 (SparseCore.T d) none Set.univ (op := opFlat) (S := {onDev main_arg0, onDev main_v0}) (fun _ h => h) (V := atLaunch m d)) $$ [Hb Ha Hi]
  · isplitl [Hb]; · iexact Hb
    rw [held_two d main_arg0 main_v0 (by decide)]
    isplitl [Ha]; · iexact Ha
    iexact Hi
  iintro ⟨Hb, Hheld⟩
  ihave Hh := (Entails.of_eq (flat_result m d)) $$ Hheld
  icases Hh with ⟨Ha, Hi⟩
  rw [wp_ret]; imodintro
  -- the call
  ihave Hin := (tileIn_all m d) $$ [Hi Ht Ho]
  · isplitl [Hi]; · iexact Hi
    isplitl [Ht] <;> iassumption
  icases Hin with ⟨Hdrop, Hin⟩
  iapply ((K (F := F)).wp_run (D (F := F)) 𝒱 (EH := EH) (P := P m) κ d 0) $$ [Hst Hin Hdrop Ha Hr Hb Hts]
  isplitr; · iexact Hctx
  isplitl [Hst]; · iexact Hst
  isplitl [Hin]
  · rw [st_eq]; iexact Hin
  iintro ⟨Hst, Hdn⟩
  ihave Hdn' := (Entails.of_eq (dn_eq m d)) $$ Hdn
  ihave Hout := (tileOut_all m d) $$ [Hdrop Hdn']
  · isplitl [Hdrop]; · iexact Hdrop
    iexact Hdn'
  icases Hout with ⟨-, Ht, Ho⟩
  -- the rows folded back
  iapply (wp_hlo_within 𝒱 (SparseCore.T d) none Set.univ (op := opFold) (S := {onDev main_v1, onDev main_v2}) (fun _ h => h) (V := gathered m d)) $$ [Hb Ho Hr]
  · isplitl [Hb]; · iexact Hb
    rw [held_two d main_v1 main_v2 (by decide), gathered_rows, gathered_result]
    isplitl [Ho]; · iexact Ho
    iexact Hr
  iintro ⟨Hb, Hheld⟩
  ihave Hh := (Entails.of_eq (fold_result m d)) $$ Hheld
  icases Hh with ⟨-, Hr⟩
  rw [wp_ret]; imodintro; imodintro
  isplitl [Hst]; · iexact Hst
  isplitr [Hb Hts]
  · isplitl [Ha]; · iexact Ha
    isplitl [Ht] <;> iassumption
  isplitl [Hb] <;> iassumption

/-! ## The final memory -/

/-- What a final memory satisfies on device `d`. -/
def Ends (d : Dev nD) (μ : (ℓ : Loc nD τ sig) → Buf (Elt F) ℓ) : Prop :=
  μ (aLoc d) = m (aLoc d) ∧ μ (tLoc d) = m (tLoc d) ∧ μ (rLoc d) = folded m d

theorem hfin (d : Dev nD) (s' : Phys nD τ sig (Elt F)) : iprop(FIN m d ∗ SI s') ⊢ (⌜Ends m d s'.mem.mem⌝ : sProp (MM F)) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := folded m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- The program's run: every device ends as `Ends` says, every semaphore at zero. -/
theorem run_main [∀ e, Nonempty (Elt F e)] (h : InVocab m) :
    θ_run (Cert.KernelIdeal.defs (F := F)) (Cert.KernelIdeal.threads (F := F)) ⟨m, fun _ => 0, ρ⟩
      (fun r => (∀ d : Dev nD, Ends m d r.2.mem) ∧ r.2.sem = fun _ => 0) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fun d s' => Ends m d s'.mem.mem) (hfin m)
    (fun r => (∀ d : Dev nD, Ends m d r.2.mem) ∧ r.2.sem = fun _ => 0) (fun _ h hz => ⟨h, hz⟩)

end Cert.Proof

end
-- ==== Proof.Value.lean ====
/-
  The value: what the precondition says of each index word (`word_of_pre`), the kernel's result as rows of the
  table (`folded_eq`), and the reference's term as the same rows (`taken_eq`): the array both name is
  `resultRows`, the table's row at each index. Nothing here depends on the float instance.
-/
module

public import proofs.«01_k».proof.Proof.Run
public import proofs.«01_k».proof.Proof.Gen.Pre_in_vocab
public import proofs.«01_k».proof.Proof.Gen.ReferenceIdeal
public import Idealize.ShloMosaic.Lib.ReduceAll

@[expose] public section

noncomputable section

namespace Cert.Proof

open Cert.KernelIdeal Cert.KernelIdeal.Gen
open Idealize.ShloMosaic
open Idealize.SL Idealize.SL.Sem

variable {F : FTy → Type} [FloatOps F]

/-! ## Index words -/

theorem ofBool_one (b : Bool) : BitVec.ofBool b = 1#1 ↔ b = true := by cases b <;> decide
theorem andi_both (a b : BitVec 1) : IntOp.andi a b = 1#1 ↔ a = 1#1 ∧ b = 1#1 := by revert a b; decide

/-- The two comparisons of the precondition, read at one word. -/
theorem word_lt (v : BitVec 32) (h : IntOp.andi (IntOp.cmpi .sge v 0#32) (IntOp.cmpi .slt v 100#32) = 1#1) : v.toNat < 100 := by
  rw [andi_both] at h
  simp only [IntOp.cmpi, ofBool_one, BitVec.sle_eq_decide, BitVec.slt_eq_decide, decide_eq_true_eq,
    BitVec.toInt_eq_toNat_cond, BitVec.toNat_ofNat, Nat.reducePow, Nat.reduceMod] at h
  omega

theorem word_toInt (v : BitVec 32) (h : v.toNat < 100) : v.toInt = v.toNat := by
  rw [BitVec.toInt_eq_toNat_cond]; omega
/-- A word below 100 is not negative, … -/
theorem word_not_neg (v : BitVec 32) (h : v.toNat < 100) : IntOp.cmpi .slt v 0#32 = 0#1 := by
  have e : ¬ v.slt 0#32 := by rw [BitVec.slt_iff_toInt_lt, word_toInt v h]; simp
  simp only [IntOp.cmpi, Bool.not_eq_true] at e ⊢
  rw [e]; rfl
/-- … is at least zero … -/
theorem word_sge (v : BitVec 32) (h : v.toNat < 100) : IntOp.cmpi .sge v 0#32 = 1#1 := by
  simp only [IntOp.cmpi, ofBool_one, BitVec.sle_iff_toInt_le, word_toInt v h]; simp
/-- … and at most 99. -/
theorem word_sle (v : BitVec 32) (h : v.toNat < 100) : IntOp.cmpi .sle v 99#32 = 1#1 := by
  have e : (99#32 : BitVec 32).toInt = 99 := by decide
  simp only [IntOp.cmpi, ofBool_one, BitVec.sle_iff_toInt_le, word_toInt v h, e]; omega

/-! ## The precondition -/

theorem word_of_pre (a : S4096x200.Idx → BitVec 32) (t : S100x128.Idx → F .f32)
    (h : Cert.Pre_in_vocab.fn (F := F) a t = fun _ => 1#1) (j : S4096x200.Idx) : (a j).toNat < 100 := by
  haveI : Subsingleton Cert.Pre_in_vocab.S_.Idx := ⟨fun x y => funext fun b => b.elim0⟩
  have e := Host.reduce_andi_all _ _ _ _ (fun b => b.elim0) (congrFun h fun b => b.elim0) j
  exact word_lt (a j) e

/-! ## One row of the table for each index -/

/-- The index of the index array that row `(b, h)` of the result reads. -/
def wordIx (b : Fin 4096) (h : Fin 200) : S4096x200.Idx := fun | 0 => b | 1 => h

theorem eq_wordIx (j : S4096x200.Idx) : j = wordIx (j 0) (j 1) := by
  funext a; match a with | 0 => rfl | 1 => rfl

/-- Row `(b, h)` of the result: the table's row that index `(b, h)` names. -/
def resultRows {α : Type} (t : S100x128.Idx → α) (a : S4096x200.Idx → BitVec 32) : S4096x200x128.Idx → α :=
  fun y => lookup t (a (wordIx (y 0) (y 1))) (y 2)

/-! ## The kernel's result -/

theorem row_lt (b : Fin 4096) (h : Fin 200) : b.val * 200 + h.val < 819200 := by omega

theorem reshape_index (b : Fin 4096) (h : Fin 200) :
    Shape.reshapeEquiv shapeCasts_S4096x200_S819200 (flatIx (b.val * 200 + h.val) (row_lt b h)) = wordIx b h := by
  refine Shape.reshapeEquiv_eq_of_rowMajor _ ?_
  rw [Shape.rowMajor_val_two, Shape.rowMajor_val_one]
  rfl

/-- Row `r` and column `c` of the gathered rows. -/
def rowIx (r : ℕ) (hr : r < 819200) (c : Fin 128) : S819200x128.Idx := fun | 0 => ⟨r, hr⟩ | 1 => c

theorem reshape_result (y : S4096x200x128.Idx) :
    Shape.reshapeEquiv shapeCasts_S819200x128_S4096x200x128 y
      = rowIx ((y 0).val * 200 + (y 1).val) (row_lt (y 0) (y 1)) (y 2) := by
  refine Shape.reshapeEquiv_eq_of_rowMajor _ ?_
  rw [Shape.rowMajor_val_two, Shape.rowMajor_val_three]
  rfl

section
variable (m : (ℓ : Loc nD τ sig) → Buf (Elt F) ℓ)

theorem folded_eq (d : Dev nD) : folded m d = resultRows (table m d) (m (aLoc d)) := by
  funext y
  show gatherRows (table m d) (flat m d) (Shape.reshapeEquiv shapeCasts_S819200x128_S4096x200x128 y) = _
  rw [reshape_result]
  exact congrArg (fun j => lookup (table m d) (m (aLoc d) j) (y 2)) (reshape_index (y 0) (y 1))

end

/-! ## The reference's term -/

section
open Cert.ReferenceIdeal (S1x1x1 S4096x200x1)

/-- Adding the table's height to negative indices changes no index that is in range. -/
theorem wrap_eq (a : S4096x200.Idx → BitVec 32) (h₀ : S_.BroadcastsInDim S4096x200 ![]) (ha : ∀ j, (a j).toNat < 100) :
    select (cmpi .slt a (broadcastInDim S4096x200 ![] h₀ (constantI S_ 32 0#32)))
      (addi a (broadcastInDim S4096x200 ![] h₀ (constantI S_ 32 100#32))) a = a := by
  funext j
  show Scalar.select (IntOp.cmpi .slt (a j) 0#32) _ (a j) = a j
  rw [word_not_neg _ (ha j)]
  rfl

/-- The indices under a last axis of one, read at an index. -/
theorem column_apply (a : S4096x200.Idx → BitVec 32) (h₁ : S4096x200.BroadcastsInDim S4096x200x1 ![0, 1]) (k : S4096x200x1.Idx) :
    broadcastInDim S4096x200x1 ![0, 1] h₁ a k = a (wordIx (k 0) (k 1)) := by
  unfold broadcastInDim
  congr 1
  funext b
  match b with
  | 0 => rfl
  | 1 => rfl

/-- Every index passes the range test. -/
theorem inRange_one (a : S4096x200.Idx → BitVec 32) (ha : ∀ j, (a j).toNat < 100) (h₁ : S4096x200.BroadcastsInDim S4096x200x1 ![0, 1])
    (h₂ : S_.BroadcastsInDim S4096x200x1 ![]) (h₃ : S1x1x1.BroadcastsInDim S4096x200x1 ![0, 1, 2]) (h₄ : S1.BroadcastsInDim S1x1x1 ![2])
    (hr : S4096x200x1.ReducesTo [2] S4096x200) (hs : 0 < S_.numel) (j : S4096x200.Idx) :
    Host.reduce IntOp.andi (andi (cmpi .sge (broadcastInDim S4096x200x1 ![0, 1] h₁ a) (broadcastInDim S4096x200x1 ![] h₂ (constantI S_ 32 0#32)))
      (cmpi .sle (broadcastInDim S4096x200x1 ![0, 1] h₁ a)
        (broadcastInDim S4096x200x1 ![0, 1, 2] h₃ (broadcastInDim S1x1x1 ![2] h₄ (constantI S1 32 99#32))))) (constantI S_ 1 1#1) hr hs j = 1#1 := by
  refine Host.reduce_andi_one _ _ _ _ _ rfl fun k => ?_
  show IntOp.andi (IntOp.cmpi .sge (broadcastInDim S4096x200x1 ![0, 1] h₁ a k) 0#32)
    (IntOp.cmpi .sle (broadcastInDim S4096x200x1 ![0, 1] h₁ a k) 99#32) = 1#1
  rw [column_apply, word_sge _ (ha _), word_sle _ (ha _)]
  rfl

/-- The reference's gather: one whole row of the table per index. -/
abbrev rowGather (wf : GatherDims.WF S100x128 S4096x200x1 S4096x200x128 [2] [0] [] [0] [] 2 ![1, 128]) :
    GatherDims S100x128 S4096x200x1 S4096x200x128 where
  offsetDims := [2]
  collapsedSliceDims := [0]
  operandBatchingDims := []
  startIndicesBatchingDims := []
  startIndexMap := [0]
  indexVectorDim := 2
  sliceSizes := ![1, 128]
  wf := wf

/-- The start index that result `(b, h, c)` reads. -/
def startIx (b : Fin 4096) (h : Fin 200) : S4096x200x1.Idx := fun | 0 => b | 1 => h | 2 => ⟨0, Nat.one_pos⟩

theorem gather_start (wf) (y : S4096x200x128.Idx) (w : S4096x200x1.Idx → BitVec 32) :
    (rowGather wf).start y w 0 = min (w (startIx (y 0) (y 1))).toInt.toNat 99 := by
  unfold GatherDims.start
  rw [dif_pos (show (0 : Fin 2) ∈ (rowGather wf).startIndexMap from List.mem_singleton.mpr rfl)]
  have e : (rowGather wf).siIdx y ⟨List.idxOf (0 : Fin 2) (rowGather wf).startIndexMap,
      List.idxOf_lt_length_iff.2 (List.mem_singleton.mpr rfl)⟩ = startIx (y 0) (y 1) := by
    funext b; refine Fin.ext ?_
    match b with
    | 0 => rfl
    | 1 => rfl
    | 2 => rfl
  rw [e]
  rfl

theorem gather_index (wf) (y : S4096x200x128.Idx) (w : S4096x200x1.Idx → BitVec 32)
    (hw : (w (startIx (y 0) (y 1))).toNat < 100) :
    (rowGather wf).operandIdx y w = tabIx (w (startIx (y 0) (y 1))) (y 2) := by
  funext a; refine Fin.ext ?_
  show (rowGather wf).start y w a + (rowGather wf).batchCoord y a + (rowGather wf).offCoord y a = _
  rw [GatherDims.batchCoord_eq_zero _ _ _ List.not_mem_nil, Nat.add_zero]
  match a with
  | 0 =>
    rw [gather_start, GatherDims.offCoord_eq_zero _ _ _ (fun h => ((GatherDims.mem_sKept _ _).mp h).1 (List.mem_singleton.mpr rfl)),
      word_toInt _ hw]
    rfl
  | 1 =>
    have e : (rowGather wf).start y w 1 = 0 := by
      unfold GatherDims.start
      rw [dif_neg (show ¬ (1 : Fin 2) ∈ (rowGather wf).startIndexMap from fun h => absurd (List.mem_singleton.mp h) (by decide))]
    rw [e, Nat.zero_add]
    rfl

/-- The reference's term, when every index is a row of the table. -/
theorem taken_eq (t : S100x128.Idx → F .f32) (a : S4096x200.Idx → BitVec 32) (ha : ∀ j, (a j).toNat < 100)
    (h₀ : S_.BroadcastsInDim S4096x200 ![]) (h₁ : S4096x200.BroadcastsInDim S4096x200x1 ![0, 1])
    (h₂ : S_.BroadcastsInDim S4096x200x1 ![]) (h₃ : S1x1x1.BroadcastsInDim S4096x200x1 ![0, 1, 2]) (h₄ : S1.BroadcastsInDim S1x1x1 ![2])
    (hr : S4096x200x1.ReducesTo [2] S4096x200) (hs : 0 < S_.numel) (h₅ : S4096x200.BroadcastsInDim S4096x200x128 ![0, 1])
    (wf : GatherDims.WF S100x128 S4096x200x1 S4096x200x128 [2] [0] [] [0] [] 2 ![1, 128]) (u : S4096x200x128.Idx → F .f32)
    (w : S4096x200.Idx → BitVec 32)
    (hw : w = select (cmpi .slt a (broadcastInDim S4096x200 ![] h₀ (constantI S_ 32 0#32)))
      (addi a (broadcastInDim S4096x200 ![] h₀ (constantI S_ 32 100#32))) a) :
    select (broadcastInDim S4096x200x128 ![0, 1] h₅ (Host.reduce IntOp.andi
        (andi (cmpi .sge (broadcastInDim S4096x200x1 ![0, 1] h₁ w) (broadcastInDim S4096x200x1 ![] h₂ (constantI S_ 32 0#32)))
          (cmpi .sle (broadcastInDim S4096x200x1 ![0, 1] h₁ w)
            (broadcastInDim S4096x200x1 ![0, 1, 2] h₃ (broadcastInDim S1x1x1 ![2] h₄ (constantI S1 32 99#32))))) (constantI S_ 1 1#1) hr hs))
      (Host.gather (rowGather wf) t (broadcastInDim S4096x200x1 ![0, 1] h₁ w)) u = resultRows t a := by
  rw [wrap_eq a h₀ ha] at hw
  subst hw
  funext y
  show Scalar.select (Host.reduce IntOp.andi _ _ hr hs _) (t ((rowGather wf).operandIdx y _)) (u y) = _
  have e := column_apply w h₁ (startIx (y 0) (y 1))
  rw [inRange_one w ha, gather_index wf y _ (by rw [e]; exact ha _), e]
  rfl

end

end Cert.Proof

end
-- ==== Proof.Reference.lean ====
/-
  The reference's two runs, at the bits and at the extended reals: where every index is a row of the table, its result
  is `resultRows` of its arguments; the arguments stay as they were; it declares no semaphore.
-/
module

public import proofs.«01_k».proof.Proof.Value
public import proofs.«01_k».proof.Proof.Gen.ReferenceIdeal.Run
public import proofs.«01_k».proof.Proof.Gen.Reference.Run
public import proofs.«01_k».proof.Proof.Gen.Reference

@[expose] public section

noncomputable section

namespace Cert.ReferenceIdeal

open Idealize.ShloMosaic Idealize.SL Idealize.SL.Sem

variable {F : FTy → Type} [FloatOps F]

/-- The reference's run as the algebraic claim names it. -/
theorem taken_run (m : (ℓ : Loc nD τ sig) → Buf (Elt F) ℓ) (ρ : Dev nD → PrngReg)
    (h : ∀ (c : Dev nD) (j : S4096x200.Idx), (m ((c.tc : Thread nD τ).loc main_arg0) j : BitVec 32).toNat < 100) :
    θ_run (defs (F := F)) (onTc (τ := τ) (main (F := F))) ⟨m, fun _ => 0, ρ⟩ fun r => (∀ c : Dev nD,
      r.2.mem ((c.tc : Thread nD τ).loc main_v0)
          = Proof.resultRows (m ((c.tc : Thread nD τ).loc main_arg1)) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r e => ⟨fun c => ⟨(e c).1.trans (Proof.taken_eq _ _ (h c) _ _ _ _ _ _ _ _ _ _ _ rfl), (e c).2⟩,
    sem_eq_zero_of_no_sems (by decide) r.2⟩) (Value.run (F := F) m ρ)

end Cert.ReferenceIdeal

namespace Cert.Reference

open Idealize.ShloMosaic Idealize.SL Idealize.SL.Sem

variable {F : FTy → Type} [FloatOps F]

/-- The reference's run as the bitwise claim names it. -/
theorem taken_run (m : (ℓ : Loc nD τ sig) → Buf (Elt F) ℓ) (ρ : Dev nD → PrngReg)
    (h : ∀ (c : Dev nD) (j : S4096x200.Idx), (m ((c.tc : Thread nD τ).loc main_arg0) j : BitVec 32).toNat < 100) :
    θ_run (defs (F := F)) (onTc (τ := τ) (main (F := F))) ⟨m, fun _ => 0, ρ⟩ fun r => (∀ c : Dev nD,
      r.2.mem ((c.tc : Thread nD τ).loc main_v0)
          = Proof.resultRows (m ((c.tc : Thread nD τ).loc main_arg1)) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r e => ⟨fun c => ⟨(e c).1.trans (Proof.taken_eq _ _ (h c) _ _ _ _ _ _ _ _ _ _ _ rfl), (e c).2⟩,
    sem_eq_zero_of_no_sems (by decide) r.2⟩) (Value.run (F := F) m ρ)

end Cert.Reference

end
-- ==== Proof.lean ====
/-
  The proof of `Cert.Claim` (Defs.lean). The kernel's run is `run_main` (Proof/Run.lean), for any float instance; the
  frames read it at the arguments and the semaphores, the value claims at the result, where it meets the reference's run
  (Proof/Reference.lean). The kernel as printed and its idealization are one text, so `run_main` at the bits is the run
  of the first and at the extended reals that of the second.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.Pre_in_vocab
public import proofs.«01_k».proof.Proof.Run
public import proofs.«01_k».proof.Proof.Value
public import proofs.«01_k».proof.Proof.Reference

@[expose] public section

noncomputable section

namespace Cert.Proof

open Idealize.ShloMosaic Idealize.SL Idealize.SL.Sem

/-! ## The kernel -/

section
open Cert.Kernel

/-- The printed kernel's run. -/
theorem kernel_run (m : (ℓ : Loc nD τ sig) → Buf (Elt Bits) ℓ) (ρ : Dev nD → PrngReg) (h : Cert.Pre_Kernel m) :
    θ_run (defs (F := Bits)) (threads (F := Bits)) ⟨m, fun _ => 0, ρ⟩ fun r => (∀ c : Dev nD,
      r.2.mem ((c.tc : Thread nD τ).loc main_v2)
          = resultRows (m ((c.tc : Thread nD τ).loc main_arg1)) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run Cert.KernelIdeal.defs _ _).mono
    (fun _ e => ⟨fun d => ⟨(e.1 d).2.2.trans (folded_eq m d), (e.1 d).1, (e.1 d).2.1⟩, e.2⟩)
    (run_main (F := Bits) m ρ fun d => word_of_pre _ _ (h d))

end

section
open Cert.KernelIdeal

/-- The idealized kernel's run. -/
theorem kernelIdeal_run (m : (ℓ : Loc nD τ sig) → Buf (Elt Ideal) ℓ) (ρ : Dev nD → PrngReg) (h : Cert.Pre_KernelIdeal m) :
    θ_run (defs (F := Ideal)) (threads (F := Ideal)) ⟨m, fun _ => 0, ρ⟩ fun r => (∀ c : Dev nD,
      r.2.mem ((c.tc : Thread nD τ).loc main_v2)
          = resultRows (m ((c.tc : Thread nD τ).loc main_arg1)) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run Cert.KernelIdeal.defs _ _).mono
    (fun _ e => ⟨fun d => ⟨(e.1 d).2.2.trans (folded_eq m d), (e.1 d).1, (e.1 d).2.1⟩, e.2⟩)
    (run_main (F := Ideal) m ρ fun d => word_of_pre _ _ (h d))

end

/-! ## The frames -/

theorem frame_kernel : Cert.quiescent_Kernel := fun m ρ h =>
  (θ_run Cert.Kernel.defs _ _).mono (fun _ e => ⟨fun c => (e.1 c).2, e.2⟩) (kernel_run m ρ h)

theorem frame_kernelIdeal : Cert.quiescent_KernelIdeal := fun m ρ h =>
  (θ_run Cert.KernelIdeal.defs _ _).mono (fun _ e => ⟨fun c => (e.1 c).2, e.2⟩) (kernelIdeal_run m ρ h)

theorem frame_reference : Cert.quiescent_Reference := fun m ρ h =>
  (θ_run Cert.Reference.defs _ _).mono (fun _ e => ⟨fun c => (e.1 c).2, e.2⟩)
    (Cert.Reference.taken_run (F := Bits) m ρ fun c => word_of_pre _ _ (h c))

theorem frame_referenceIdeal : Cert.quiescent_ReferenceIdeal := fun m ρ h =>
  (θ_run Cert.ReferenceIdeal.defs _ _).mono (fun _ e => ⟨fun c => (e.1 c).2, e.2⟩)
    (Cert.ReferenceIdeal.taken_run (F := Ideal) m ρ fun c => word_of_pre _ _ (h c))

/-! ## The values -/

theorem algebraic : Cert.algebraic_KernelIdeal_ReferenceIdeal := by
  intro m ρ m' ρ' h agree
  refine ⟨fun c => resultRows (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    (θ_run Cert.KernelIdeal.defs _ _).mono (fun _ e => e.1) (kernelIdeal_run m ρ h), ?_⟩
  refine (θ_run Cert.ReferenceIdeal.defs _ _).mono (fun _ e c => ⟨(e.1 c).1.trans ?_, (e.1 c).2⟩)
    (Cert.ReferenceIdeal.taken_run (F := Ideal) m' ρ' fun c => ?_)
  · rw [(agree c).1]; exact word_of_pre _ _ (h c)
  · rw [(agree c).1, (agree c).2]

theorem bitexact : Cert.bitexact_Kernel_Reference := by
  intro m ρ m' ρ' h agree
  refine ⟨fun c => resultRows (m ((c.tc : Thread Cert.Kernel.nD Cert.Kernel.τ).loc Cert.Kernel.main_arg1))
      (m ((c.tc : Thread Cert.Kernel.nD Cert.Kernel.τ).loc Cert.Kernel.main_arg0)),
    (θ_run Cert.Kernel.defs _ _).mono (fun _ e => e.1) (kernel_run m ρ h), ?_⟩
  refine (θ_run Cert.Reference.defs _ _).mono (fun _ e c => ⟨(e.1 c).1.trans ?_, (e.1 c).2⟩)
    (Cert.Reference.taken_run (F := Bits) m' ρ' fun c => ?_)
  · rw [(agree c).1]; exact word_of_pre _ _ (h c)
  · rw [(agree c).1, (agree c).2]

theorem claim : Cert.Claim :=
  ⟨Cert.Kernel.Gen.facts, Cert.KernelIdeal.Gen.facts, Cert.Reference.Gen.facts, Cert.ReferenceIdeal.Gen.facts, Cert.Pre_in_vocab.Gen.facts,
    frame_kernel, frame_kernelIdeal, frame_reference, frame_referenceIdeal, trivial, algebraic, bitexact⟩

end Cert.Proof

end
